-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_general_position [hPre_general_position : Cert.Pre_general_position.Facts] (m : (ℓ : Loc Cert.KernelIdeal.nD Cert.KernelIdeal.τ Cert.KernelIdeal.sig) → Buf (Elt Ideal) ℓ) : Prop :=
  ∀ c : Dev Cert.KernelIdeal.nD,
    (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.1 = (fun _ => 1#1)
    ∧ (Cert.Pre_general_position.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_general_position [hPre_general_position : Cert.Pre_general_position.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.1 = (fun _ => 1#1)
    ∧ (Cert.Pre_general_position.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_general_position [hKernelIdeal : Cert.KernelIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_general_position m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_general_position [hReferenceIdeal : Cert.ReferenceIdeal.Facts] [hPre_general_position : Cert.Pre_general_position.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_general_position m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "marker" .f32 0x3FC00000#32 ((25165825 / 16777216 : ℝ) : EReal)

def algebraic_KernelIdeal_ReferenceIdeal_pre_general_position [hKernelIdeal : Cert.KernelIdeal.Facts] [hReferenceIdeal : Cert.ReferenceIdeal.Facts] [hPre_general_position : Cert.Pre_general_position.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_general_position m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_general_position : Cert.Pre_general_position.Facts),
    quiescent_Kernel (hKernel := hKernel)
    ∧ quiescent_KernelIdeal (hKernelIdeal := hKernelIdeal)
    ∧ quiescent_KernelIdeal_pre_general_position (hKernelIdeal := hKernelIdeal) (hPre_general_position := hPre_general_position)
    ∧ quiescent_ReferenceIdeal (hReferenceIdeal := hReferenceIdeal)
    ∧ quiescent_ReferenceIdeal_pre_general_position (hReferenceIdeal := hReferenceIdeal) (hPre_general_position := hPre_general_position)
    ∧ preserves_Kernel_KernelIdeal
    ∧ algebraic_KernelIdeal_ReferenceIdeal_pre_general_position (hKernelIdeal := hKernelIdeal) (hReferenceIdeal := hReferenceIdeal) (hPre_general_position := hPre_general_position)
-- ==== Pre_general_position.lean ====
abbrev S4x4096x2048 : Shape := ⟨3, ![4, 4096, 2048]⟩
abbrev S4x4096 : Shape := ⟨2, ![4, 4096]⟩
abbrev S3x10x2048 : Shape := ⟨3, ![3, 10, 2048]⟩
abbrev S2048 : Shape := ⟨1, ![2048]⟩
abbrev S_ : Shape := ⟨0, ![]⟩
abbrev S1x1x2048 : Shape := ⟨3, ![1, 1, 2048]⟩
abbrev S3x10 : Shape := ⟨2, ![3, 10]⟩
abbrev S4x4096x1 : Shape := ⟨3, ![4, 4096, 1]⟩
abbrev S3x10x1 : Shape := ⟨3, ![3, 10, 1]⟩
abbrev S3x10x4x4096 : Shape := ⟨4, ![3, 10, 4, 4096]⟩
abbrev S4x3x4096x10 : Shape := ⟨4, ![4, 3, 4096, 10]⟩
abbrev S4x3x4096 : Shape := ⟨3, ![4, 3, 4096]⟩
abbrev S4x3x4096x1 : Shape := ⟨4, ![4, 3, 4096, 1]⟩
abbrev S4096 : Shape := ⟨1, ![4096]⟩
abbrev S1x4096 : Shape := ⟨2, ![1, 4096]⟩
abbrev S3 : Shape := ⟨1, ![3]⟩
abbrev S3x1 : Shape := ⟨2, ![3, 1]⟩
abbrev S3x4096 : Shape := ⟨2, ![3, 4096]⟩
abbrev S10 : Shape := ⟨1, ![10]⟩
abbrev S10x1 : Shape := ⟨2, ![10, 1]⟩
abbrev S1x10 : Shape := ⟨2, ![1, 10]⟩
abbrev S10x10 : Shape := ⟨2, ![10, 10]⟩
abbrev S1x3x4096x1x1 : Shape := ⟨5, ![1, 3, 4096, 1, 1]⟩
abbrev S1x1x1x10x10 : Shape := ⟨5, ![1, 1, 1, 10, 10]⟩
abbrev S1x3x4096x10x10 : Shape := ⟨5, ![1, 3, 4096, 10, 10]⟩
abbrev S4x3x4096x10x1 : Shape := ⟨5, ![4, 3, 4096, 10, 1]⟩
abbrev S4x3x4096x1x10 : Shape := ⟨5, ![4, 3, 4096, 1, 10]⟩
abbrev S4x3x4096x10x10 : Shape := ⟨5, ![4, 3, 4096, 10, 10]⟩

class Facts : Prop where
  bcast_S_S4x4096x2048 : S_.BroadcastsInDim S4x4096x2048 (![] : Fin 0 → Fin S4x4096x2048.rank)
  bcast_S_S3x10x2048 : S_.BroadcastsInDim S3x10x2048 (![] : Fin 0 → Fin S3x10x2048.rank)
  bcast_S_S2048 : S_.BroadcastsInDim S2048 (![] : Fin 0 → Fin S2048.rank)
  bcast_S_S4x4096 : S_.BroadcastsInDim S4x4096 (![] : Fin 0 → Fin S4x4096.rank)
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  reducesTo_S4x4096x2048_S4x4096_d2 : S4x4096x2048.ReducesTo [2] S4x4096
  h_S_ : 0 < S_.numel
  reducesTo_S3x10x2048_S3x10_d2 : S3x10x2048.ReducesTo [2] S3x10
  bcast_S_S3x10 : S_.BroadcastsInDim S3x10 (![] : Fin 0 → Fin S3x10.rank)
  bcast_S4x4096_S4x4096x1_0_1 : S4x4096.BroadcastsInDim S4x4096x1 (![0, 1] : Fin 2 → Fin S4x4096x1.rank)
  bcast_S4x4096x1_S4x4096x2048_0_1_2 : S4x4096x1.BroadcastsInDim S4x4096x2048 (![0, 1, 2] : Fin 3 → Fin S4x4096x2048.rank)
  bcast_S3x10_S3x10x1_0_1 : S3x10.BroadcastsInDim S3x10x1 (![0, 1] : Fin 2 → Fin S3x10x1.rank)
  bcast_S3x10x1_S3x10x2048_0_1_2 : S3x10x1.BroadcastsInDim S3x10x2048 (![0, 1, 2] : Fin 3 → Fin S3x10x2048.rank)
  transposes_S3x10x4x4096_S4x3x4096x10_2_0_3_1 : S3x10x4x4096.Transposes [2, 0, 3, 1] S4x3x4096x10
  reducesTo_S4x3x4096x10_S4x3x4096_d3 : S4x3x4096x10.ReducesTo [3] S4x3x4096
  bcast_S4x3x4096_S4x3x4096x1_0_1_2 : S4x3x4096.BroadcastsInDim S4x3x4096x1 (![0, 1, 2] : Fin 3 → Fin S4x3x4096x1.rank)
  bcast_S4x3x4096x1_S4x3x4096x10_0_1_2_3 : S4x3x4096x1.BroadcastsInDim S4x3x4096x10 (![0, 1, 2, 3] : Fin 4 → Fin S4x3x4096x10.rank)
  bcast_S_S4096 : S_.BroadcastsInDim S4096 (![] : Fin 0 → Fin S4096.rank)
  bcast_S4096_S1x4096_1 : S4096.BroadcastsInDim S1x4096 (![1] : Fin 1 → Fin S1x4096.rank)
  bcast_S3_S3x1_0 : S3.BroadcastsInDim S3x1 (![0] : Fin 1 → Fin S3x1.rank)
  bcast_S1x4096_S3x4096_0_1 : S1x4096.BroadcastsInDim S3x4096 (![0, 1] : Fin 2 → Fin S3x4096.rank)
  bcast_S3x1_S3x4096_0_1 : S3x1.BroadcastsInDim S3x4096 (![0, 1] : Fin 2 → Fin S3x4096.rank)
  bcast_S10_S10x1_0 : S10.BroadcastsInDim S10x1 (![0] : Fin 1 → Fin S10x1.rank)
  bcast_S10_S1x10_1 : S10.BroadcastsInDim S1x10 (![1] : Fin 1 → Fin S1x10.rank)
  bcast_S10x1_S10x10_0_1 : S10x1.BroadcastsInDim S10x10 (![0, 1] : Fin 2 → Fin S10x10.rank)
  bcast_S1x10_S10x10_0_1 : S1x10.BroadcastsInDim S10x10 (![0, 1] : Fin 2 → Fin S10x10.rank)
  bcast_S3x4096_S1x3x4096x1x1_1_2 : S3x4096.BroadcastsInDim S1x3x4096x1x1 (![1, 2] : Fin 2 → Fin S1x3x4096x1x1.rank)
  bcast_S10x10_S1x1x1x10x10_3_4 : S10x10.BroadcastsInDim S1x1x1x10x10 (![3, 4] : Fin 2 → Fin S1x1x1x10x10.rank)
  bcast_S1x1x1x10x10_S1x3x4096x10x10_0_1_2_3_4 : S1x1x1x10x10.BroadcastsInDim S1x3x4096x10x10 (![0, 1, 2, 3, 4] : Fin 5 → Fin S1x3x4096x10x10.rank)
  bcast_S1x3x4096x1x1_S1x3x4096x10x10_0_1_2_3_4 : S1x3x4096x1x1.BroadcastsInDim S1x3x4096x10x10 (![0, 1, 2, 3, 4] : Fin 5 → Fin S1x3x4096x10x10.rank)
  bcast_S4x3x4096x10_S4x3x4096x10x1_0_1_2_3 : S4x3x4096x10.BroadcastsInDim S4x3x4096x10x1 (![0, 1, 2, 3] : Fin 4 → Fin S4x3x4096x10x1.rank)
  bcast_S4x3x4096x10_S4x3x4096x1x10_0_1_2_4 : S4x3x4096x10.BroadcastsInDim S4x3x4096x1x10 (![0, 1, 2, 4] : Fin 4 → Fin S4x3x4096x1x10.rank)
  bcast_S4x3x4096x10x1_S4x3x4096x10x10_0_1_2_3_4 : S4x3x4096x10x1.BroadcastsInDim S4x3x4096x10x10 (![0, 1, 2, 3, 4] : Fin 5 → Fin S4x3x4096x10x10.rank)
  bcast_S4x3x4096x1x10_S4x3x4096x10x10_0_1_2_3_4 : S4x3x4096x1x10.BroadcastsInDim S4x3x4096x10x10 (![0, 1, 2, 3, 4] : Fin 5 → Fin S4x3x4096x10x10.rank)
  bcast_S1x3x4096x10x10_S4x3x4096x10x10_0_1_2_3_4 : S1x3x4096x10x10.BroadcastsInDim S4x3x4096x10x10 (![0, 1, 2, 3, 4] : Fin 5 → Fin S4x3x4096x10x10.rank)
  dot_S3x10x2048_S4x4096x2048_S3x10x4x4096_2_2_01_01_n_n_wf : DotDims.WF S3x10x2048 S4x4096x2048 S3x10x4x4096 [2] [2] [0, 1] [0, 1] [] []

variable [Facts]

def dot_S3x10x2048_S4x4096x2048_S3x10x4x4096_2_2_01_01_n_n : DotDims S3x10x2048 S4x4096x2048 S3x10x4x4096 where
  lhsContracting := [2]
  rhsContracting := [2]
  lhsNonContracting := [0, 1]
  rhsNonContracting := [0, 1]
  lhsBatch := []
  rhsBatch := []
  wf := dot_S3x10x2048_S4x4096x2048_S3x10x4x4096_2_2_01_01_n_n_wf
def fn_where {F : FTy → Type} [FloatOps F] (arg0 : IVec S4096 1) (arg1 : IVec S_ 32) (arg2 : IVec S_ 32) : IVec S4096 32 :=
  let v0 : IVec S4096 32 := broadcastInDim S4096 ![] bcast_S_S4096 arg1
  let v1 : IVec S4096 32 := broadcastInDim S4096 ![] bcast_S_S4096 arg2
  let v2 : IVec S4096 32 := select arg0 v0 v1
  v2

def fn_where_0 {F : FTy → Type} [FloatOps F] (arg0 : IVec S4096 1) (arg1 : IVec S_ 32) (arg2 : IVec S4096 32) : IVec S4096 32 :=
  let v0 : IVec S4096 32 := broadcastInDim S4096 ![] bcast_S_S4096 arg1
  let v1 : IVec S4096 32 := select arg0 v0 arg2
  v1

def fn_part4 {F : FTy → Type} [FloatOps F] (main_arg4 : FVec F S2048 .f32) (main_v2 : IVec S4x4096x2048 1) (main_v5 : IVec S3x10x2048 1) (main_v8 : IVec S2048 1) (main_v11 : IVec S2048 1) (main_v16 : IVec S4x4096 1) (main_v29 : IVec S4x4096 1) (main_v34 : IVec S3x10 1) (main_v52 : IVec S4x3x4096x10 1) (main_v68 : IVec S3x4096 1) (main_v75 : IVec S10x10 1) : IVec S4x4096x2048 1 × IVec S3x10x2048 1 × IVec S2048 1 × IVec S2048 1 × IVec S2048 1 × IVec S4x4096 1 × IVec S4x4096 1 × IVec S3x10 1 × IVec S4x3x4096x10x10 1 :=
  let main_v76 : IVec S1x3x4096x1x1 1 := broadcastInDim S1x3x4096x1x1 ![1, 2] bcast_S3x4096_S1x3x4096x1x1_1_2 main_v68
  let main_v77 : IVec S1x1x1x10x10 1 := broadcastInDim S1x1x1x10x10 ![3, 4] bcast_S10x10_S1x1x1x10x10_3_4 main_v75
  let main_v78 : IVec S1x3x4096x10x10 1 := broadcastInDim S1x3x4096x10x10 ![0, 1, 2, 3, 4] bcast_S1x1x1x10x10_S1x3x4096x10x10_0_1_2_3_4 main_v77
  let main_v79 : IVec S1x3x4096x10x10 1 := broadcastInDim S1x3x4096x10x10 ![0, 1, 2, 3, 4] bcast_S1x3x4096x1x1_S1x3x4096x10x10_0_1_2_3_4 main_v76
  let main_v80 : IVec S1x3x4096x10x10 1 := ori main_v78 main_v79
  let main_v81 : IVec S4x3x4096x10x1 1 := broadcastInDim S4x3x4096x10x1 ![0, 1, 2, 3] bcast_S4x3x4096x10_S4x3x4096x10x1_0_1_2_3 main_v52
  let main_v82 : IVec S4x3x4096x1x10 1 := broadcastInDim S4x3x4096x1x10 ![0, 1, 2, 4] bcast_S4x3x4096x10_S4x3x4096x1x10_0_1_2_4 main_v52
  let main_v83 : IVec S4x3x4096x10x10 1 := broadcastInDim S4x3x4096x10x10 ![0, 1, 2, 3, 4] bcast_S4x3x4096x10x1_S4x3x4096x10x10_0_1_2_3_4 main_v81
  let main_v84 : IVec S4x3x4096x10x10 1 := broadcastInDim S4x3x4096x10x10 ![0, 1, 2, 3, 4] bcast_S4x3x4096x1x10_S4x3x4096x10x10_0_1_2_3_4 main_v82
  let main_v85 : IVec S4x3x4096x10x10 1 := andi main_v83 main_v84
  let main_v86 : IVec S4x3x4096x10x10 1 := noti main_v85
  let main_v87 : IVec S4x3x4096x10x10 1 := broadcastInDim S4x3x4096x10x10 ![0, 1, 2, 3, 4] bcast_S1x3x4096x10x10_S4x3x4096x10x10_0_1_2_3_4 main_v80
  let main_v88 : IVec S4x3x4096x10x10 1 := ori main_v87 main_v86
  let main_cst_18 : FVec F S_ .f32 := constant S_ .f32 0x00000000#32
  let main_v89 : FVec F S2048 .f32 := broadcastInDim S2048 ![] bcast_S_S2048 main_cst_18
  let main_v90 : IVec S2048 1 := cmpf .oge main_arg4 main_v89
  (main_v2, main_v5, main_v8, main_v11, main_v90, main_v16, main_v29, main_v34, main_v88)

def fn_part3 {F : FTy → Type} [FloatOps F] (main_arg4 : FVec F S2048 .f32) (main_v2 : IVec S4x4096x2048 1) (main_v5 : IVec S3x10x2048 1) (main_v8 : IVec S2048 1) (main_v11 : IVec S2048 1) (main_v16 : IVec S4x4096 1) (main_v29 : IVec S4x4096 1) (main_v34 : IVec S3x10 1) (main_v52 : IVec S4x3x4096x10 1) (main_v55 : FVec F S4096 .f32) (main_cst_13 : FVec F S_ .f32) : IVec S4x4096x2048 1 × IVec S3x10x2048 1 × IVec S2048 1 × IVec S2048 1 × IVec S2048 1 × IVec S4x4096 1 × IVec S4x4096 1 × IVec S3x10 1 × IVec S4x3x4096x10x10 1 :=
  let main_v56 : FVec F S4096 .f32 := broadcastInDim S4096 ![] bcast_S_S4096 main_cst_13
  let main_v57 : IVec S4096 1 := cmpf .olt main_v55 main_v56
  let main_cst_14 : FVec F S_ .f32 := constant S_ .f32 0x3F333333#32
  let main_v58 : FVec F S4096 .f32 := broadcastInDim S4096 ![] bcast_S_S4096 main_cst_14
  let main_v59 : IVec S4096 1 := cmpf .olt main_v55 main_v58
  let main_c_15 : IVec S_ 32 := constantI S_ 32 1#32
  let main_c_16 : IVec S_ 32 := constantI S_ 32 2#32
  let main_v60 : IVec S4096 32 := fn_where (F := F) main_v59 main_c_15 main_c_16
  let main_c_17 : IVec S_ 32 := constantI S_ 32 0#32
  let main_v61 : IVec S4096 32 := fn_where_0 (F := F) main_v57 main_c_17 main_v60
  let main_v62 : IVec S1x4096 32 := broadcastInDim S1x4096 ![1] bcast_S4096_S1x4096_1 main_v61
  let main_v63 : IVec S3 32 := iotaInDim S3 32 0
  let main_v64 : IVec S3x1 32 := broadcastInDim S3x1 ![0] bcast_S3_S3x1_0 main_v63
  let main_v65 : IVec S1x4096 32 := id main_v62
  let main_v66 : IVec S3x4096 32 := broadcastInDim S3x4096 ![0, 1] bcast_S1x4096_S3x4096_0_1 main_v65
  let main_v67 : IVec S3x4096 32 := broadcastInDim S3x4096 ![0, 1] bcast_S3x1_S3x4096_0_1 main_v64
  let main_v68 : IVec S3x4096 1 := cmpi .ne main_v66 main_v67
  let main_v69 : IVec S10 32 := iotaInDim S10 32 0
  let main_v70 : IVec S10x1 32 := broadcastInDim S10x1 ![0] bcast_S10_S10x1_0 main_v69
  let main_v71 : IVec S10 32 := iotaInDim S10 32 0
  let main_v72 : IVec S1x10 32 := broadcastInDim S1x10 ![1] bcast_S10_S1x10_1 main_v71
  let main_v73 : IVec S10x10 32 := broadcastInDim S10x10 ![0, 1] bcast_S10x1_S10x10_0_1 main_v70
  let main_v74 : IVec S10x10 32 := broadcastInDim S10x10 ![0, 1] bcast_S1x10_S10x10_0_1 main_v72
  let main_v75 : IVec S10x10 1 := cmpi .eq main_v73 main_v74
  fn_part4 (F := F) main_arg4 main_v2 main_v5 main_v8 main_v11 main_v16 main_v29 main_v34 main_v52 main_v68 main_v75

def fn_part2 {F : FTy → Type} [FloatOps F] (main_arg2 : FVec F S3x10x2048 .f32) (main_arg4 : FVec F S2048 .f32) (main_v2 : IVec S4x4096x2048 1) (main_v5 : IVec S3x10x2048 1) (main_v8 : IVec S2048 1) (main_v11 : IVec S2048 1) (main_v16 : IVec S4x4096 1) (main_v25 : FVec F S4x4096x2048 .f32) (main_v29 : IVec S4x4096 1) (main_v34 : IVec S3x10 1) (main_v35 : FVec F S4x4096x2048 .f32) (main_cst_9 : FVec F S_ .f32) : IVec S4x4096x2048 1 × IVec S3x10x2048 1 × IVec S2048 1 × IVec S2048 1 × IVec S2048 1 × IVec S4x4096 1 × IVec S4x4096 1 × IVec S3x10 1 × IVec S4x3x4096x10x10 1 :=
  let main_v36 : FVec F S4x4096 .f32 := (fun x v => Host.reduceAdd x v reducesTo_S4x4096x2048_S4x4096_d2 h_S_) main_v35 main_cst_9
  let main_v37 : FVec F S4x4096x1 .f32 := broadcastInDim S4x4096x1 ![0, 1] bcast_S4x4096_S4x4096x1_0_1 main_v36
  let main_v38 : FVec F S4x4096x1 .f32 := Host.sqrt main_v37
  let main_v39 : FVec F S4x4096x2048 .f32 := broadcastInDim S4x4096x2048 ![0, 1, 2] bcast_S4x4096x1_S4x4096x2048_0_1_2 main_v38
  let main_v40 : FVec F S4x4096x2048 .f32 := Host.divf main_v25 main_v39
  let main_v41 : FVec F S3x10x2048 .f32 := mulf main_arg2 main_arg2
  let main_cst_10 : FVec F S_ .f32 := constant S_ .f32 0x00000000#32
  let main_v42 : FVec F S3x10 .f32 := (fun x v => Host.reduceAdd x v reducesTo_S3x10x2048_S3x10_d2 h_S_) main_v41 main_cst_10
  let main_v43 : FVec F S3x10x1 .f32 := broadcastInDim S3x10x1 ![0, 1] bcast_S3x10_S3x10x1_0_1 main_v42
  let main_v44 : FVec F S3x10x1 .f32 := Host.sqrt main_v43
  let main_v45 : FVec F S3x10x2048 .f32 := broadcastInDim S3x10x2048 ![0, 1, 2] bcast_S3x10x1_S3x10x2048_0_1_2 main_v44
  let main_v46 : FVec F S3x10x2048 .f32 := Host.divf main_arg2 main_v45
  let main_v47 : FVec F S3x10x4x4096 .f32 := (fun l r => Host.dotGeneral dot_S3x10x2048_S4x4096x2048_S3x10x4x4096_2_2_01_01_n_n none l r) main_v46 main_v40
  let main_v48 : FVec F S4x3x4096x10 .f32 := (transpose S4x3x4096x10 [2, 0, 3, 1] · transposes_S3x10x4x4096_S4x3x4096x10_2_0_3_1) main_v47
  let main_cst_11 : FVec F S_ .f32 := constant S_ .f32 0xFF800000#32
  let main_v49 : FVec F S4x3x4096 .f32 := (fun x v => Host.reduce FloatOps.maximumf x v reducesTo_S4x3x4096x10_S4x3x4096_d3 h_S_) main_v48 main_cst_11
  let main_v50 : FVec F S4x3x4096x1 .f32 := broadcastInDim S4x3x4096x1 ![0, 1, 2] bcast_S4x3x4096_S4x3x4096x1_0_1_2 main_v49
  let main_v51 : FVec F S4x3x4096x10 .f32 := broadcastInDim S4x3x4096x10 ![0, 1, 2, 3] bcast_S4x3x4096x1_S4x3x4096x10_0_1_2_3 main_v50
  let main_v52 : IVec S4x3x4096x10 1 := cmpf .oeq main_v48 main_v51
  let main_v53 : FVec F S4096 .f32 := sitofp .f32 (iotaInDim S4096 32 0)
  let main_cst_12 : FVec F S_ .f32 := constant S_ .f32 0x45800000#32
  let main_v54 : FVec F S4096 .f32 := broadcastInDim S4096 ![] bcast_S_S4096 main_cst_12
  let main_v55 : FVec F S4096 .f32 := Host.divf main_v53 main_v54
  let main_cst_13 : FVec F S_ .f32 := constant S_ .f32 0x3E99999A#32
  fn_part3 (F := F) main_arg4 main_v2 main_v5 main_v8 main_v11 main_v16 main_v29 main_v34 main_v52 main_v55 main_cst_13

def fn_part1 {F : FTy → Type} [FloatOps F] (main_arg0 : FVec F S4x4096x2048 .f32) (main_arg2 : FVec F S3x10x2048 .f32) (main_arg3 : FVec F S2048 .f32) (main_arg4 : FVec F S2048 .f32) (main_v2 : IVec S4x4096x2048 1) (main_v5 : IVec S3x10x2048 1) (main_v8 : IVec S2048 1) (main_v11 : IVec S2048 1) (main_v16 : IVec S4x4096 1) (main_v17 : FVec F S2048 .f32) : IVec S4x4096x2048 1 × IVec S3x10x2048 1 × IVec S2048 1 × IVec S2048 1 × IVec S2048 1 × IVec S4x4096 1 × IVec S4x4096 1 × IVec S3x10 1 × IVec S4x3x4096x10x10 1 :=
  let main_cst_4 : FVec F S_ .f32 := constant S_ .f32 0x322BCC77#32
  let main_v18 : FVec F S2048 .f32 := broadcastInDim S2048 ![] bcast_S_S2048 main_cst_4
  let main_v19 : FVec F S2048 .f32 := addf main_v17 main_v18
  let main_v20 : FVec F S1x1x2048 .f32 := broadcastInDim S1x1x2048 ![2] bcast_S2048_S1x1x2048_2 main_arg3
  let main_v21 : FVec F S4x4096x2048 .f32 := broadcastInDim S4x4096x2048 ![0, 1, 2] bcast_S1x1x2048_S4x4096x2048_0_1_2 main_v20
  let main_v22 : FVec F S4x4096x2048 .f32 := subf main_arg0 main_v21
  let main_v23 : FVec F S1x1x2048 .f32 := broadcastInDim S1x1x2048 ![2] bcast_S2048_S1x1x2048_2 main_v19
  let main_v24 : FVec F S4x4096x2048 .f32 := broadcastInDim S4x4096x2048 ![0, 1, 2] bcast_S1x1x2048_S4x4096x2048_0_1_2 main_v23
  let main_v25 : FVec F S4x4096x2048 .f32 := Host.divf main_v22 main_v24
  let main_v26 : FVec F S4x4096x2048 .f32 := mulf main_v25 main_v25
  let main_cst_5 : FVec F S_ .f32 := constant S_ .f32 0x00000000#32
  let main_v27 : FVec F S4x4096 .f32 := (fun x v => Host.reduceAdd x v reducesTo_S4x4096x2048_S4x4096_d2 h_S_) main_v26 main_cst_5
  let main_cst_6 : FVec F S_ .f32 := constant S_ .f32 0x179ABE15#32
  let main_v28 : FVec F S4x4096 .f32 := broadcastInDim S4x4096 ![] bcast_S_S4x4096 main_cst_6
  let main_v29 : IVec S4x4096 1 := cmpf .oge main_v27 main_v28
  let main_v30 : FVec F S3x10x2048 .f32 := mulf main_arg2 main_arg2
  let main_cst_7 : FVec F S_ .f32 := constant S_ .f32 0x00000000#32
  let main_v31 : FVec F S3x10 .f32 := (fun x v => Host.reduceAdd x v reducesTo_S3x10x2048_S3x10_d2 h_S_) main_v30 main_cst_7
  let main_v32 : FVec F S3x10 .f32 := Host.sqrt main_v31
  let main_cst_8 : FVec F S_ .f32 := constant S_ .f32 0x2B8CBCCC#32
  let main_v33 : FVec F S3x10 .f32 := broadcastInDim S3x10 ![] bcast_S_S3x10 main_cst_8
  let main_v34 : IVec S3x10 1 := cmpf .oge main_v32 main_v33
  let main_v35 : FVec F S4x4096x2048 .f32 := mulf main_v25 main_v25
  let main_cst_9 : FVec F S_ .f32 := constant S_ .f32 0x00000000#32
  fn_part2 (F := F) main_arg2 main_arg4 main_v2 main_v5 main_v8 main_v11 main_v16 main_v25 main_v29 main_v34 main_v35 main_cst_9

def fn {F : FTy → Type} [FloatOps F] (main_arg0 : FVec F S4x4096x2048 .f32) (main_arg1 : IVec S4x4096 32) (main_arg2 : FVec F S3x10x2048 .f32) (main_arg3 : FVec F S2048 .f32) (main_arg4 : FVec F S2048 .f32) : IVec S4x4096x2048 1 × IVec S3x10x2048 1 × IVec S2048 1 × IVec S2048 1 × IVec S2048 1 × IVec S4x4096 1 × IVec S4x4096 1 × IVec S3x10 1 × IVec S4x3x4096x10x10 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S3x10x2048 .f32 := Host.absf main_arg2
  let main_cst_0 : FVec F S_ .f32 := constant S_ .f32 0x7F800000#32
  let main_v4 : FVec F S3x10x2048 .f32 := broadcastInDim S3x10x2048 ![] bcast_S_S3x10x2048 main_cst_0
  let main_v5 : IVec S3x10x2048 1 := cmpf .olt main_v3 main_v4
  let main_v6 : FVec F S2048 .f32 := Host.absf main_arg3
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048 .f32 := Host.absf main_arg4
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c : IVec S_ 32 := constantI S_ 32 0#32
  let main_v12 : IVec S4x4096 32 := broadcastInDim S4x4096 ![] bcast_S_S4x4096 main_c
  let main_v13 : IVec S4x4096 1 := cmpi .sge main_arg1 main_v12
  let main_c_3 : IVec S_ 32 := constantI S_ 32 32000#32
  let main_v14 : IVec S4x4096 32 := broadcastInDim S4x4096 ![] bcast_S_S4x4096 main_c_3
  let main_v15 : IVec S4x4096 1 := cmpi .slt main_arg1 main_v14
  let main_v16 : IVec S4x4096 1 := andi main_v13 main_v15
  let main_v17 : FVec F S2048 .f32 := Host.sqrt main_arg4
  fn_part1 (F := F) main_arg0 main_arg2 main_arg3 main_arg4 main_v2 main_v5 main_v8 main_v11 main_v16 main_v17
-- ==== Kernel.lean ====
abbrev S4x4096x2048 : Shape := ⟨3, ![4, 4096, 2048]⟩
abbrev S4x4096 : Shape := ⟨2, ![4, 4096]⟩
abbrev S3x10x2048 : Shape := ⟨3, ![3, 10, 2048]⟩
abbrev S2048 : Shape := ⟨1, ![2048]⟩
abbrev S16384x2048 : Shape := ⟨2, ![16384, 2048]⟩
abbrev S16384x1 : Shape := ⟨2, ![16384, 1]⟩
abbrev S30x2048 : Shape := ⟨2, ![30, 2048]⟩
abbrev S1x2048 : Shape := ⟨2, ![1, 2048]⟩
abbrev S2048x1 : Shape := ⟨2, ![2048, 1]⟩
abbrev S1024x2048 : Shape := ⟨2, ![1024, 2048]⟩
abbrev S1024x1 : Shape := ⟨2, ![1024, 1]⟩
abbrev S16384x30 : Shape := ⟨2, ![16384, 30]⟩
abbrev S30 : Shape := ⟨1, ![30]⟩
abbrev S30x1 : Shape := ⟨2, ![30, 1]⟩
abbrev S512x2048 : Shape := ⟨2, ![512, 2048]⟩
abbrev S512x30 : Shape := ⟨2, ![512, 30]⟩
abbrev S512x1 : Shape := ⟨2, ![512, 1]⟩
abbrev S512 : Shape := ⟨1, ![512]⟩

abbrev nBuf : Space → Nat
  | .hbm => 12
  | .vmem => 15
  | .smem => 0
  | _ => 0

abbrev bufTy : (tb : Table) → Fin (tcTables nBuf tb) → BufTy
  | .hbm, ⟨0, _⟩ => ⟨S4x4096x2048, .f32⟩
  | .hbm, ⟨1, _⟩ => ⟨S4x4096, .i32⟩
  | .hbm, ⟨2, _⟩ => ⟨S3x10x2048, .f32⟩
  | .hbm, ⟨3, _⟩ => ⟨S2048, .f32⟩
  | .hbm, ⟨4, _⟩ => ⟨S2048, .f32⟩
  | .hbm, ⟨5, _⟩ => ⟨S16384x2048, .f32⟩
  | .hbm, ⟨6, _⟩ => ⟨S16384x1, .i32⟩
  | .hbm, ⟨7, _⟩ => ⟨S30x2048, .f32⟩
  | .hbm, ⟨8, _⟩ => ⟨S1x2048, .f32⟩
  | .hbm, ⟨9, _⟩ => ⟨S1x2048, .f32⟩
  | .hbm, ⟨10, _⟩ => ⟨S2048x1, .f32⟩
  | .hbm, ⟨11, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1024x1, .i32⟩
  | .local _ .vmem, ⟨3, _⟩ => ⟨S1024x1, .i32⟩
  | .local _ .vmem, ⟨4, _⟩ => ⟨S30x2048, .f32⟩
  | .local _ .vmem, ⟨5, _⟩ => ⟨S1x2048, .f32⟩
  | .local _ .vmem, ⟨6, _⟩ => ⟨S1x2048, .f32⟩
  | .local _ .vmem, ⟨7, _⟩ => ⟨S2048x1, .f32⟩
  | .local _ .vmem, ⟨8, _⟩ => ⟨S1024x2048, .f32⟩
  | .local _ .vmem, ⟨9, _⟩ => ⟨S1024x2048, .f32⟩
  | .local _ .vmem, ⟨10, _⟩ => ⟨S30x2048, .bf16⟩
  | .local _ .vmem, ⟨11, _⟩ => ⟨S30x2048, .bf16⟩
  | .local _ .vmem, ⟨12, _⟩ => ⟨S2048x1, .bf16⟩
  | .local _ .vmem, ⟨13, _⟩ => ⟨S16384x30, .bf16⟩
  | .local _ .vmem, ⟨14, _⟩ => ⟨S16384x1, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def k0_off1 (i : grid0.Coords) (c0_i32_1 : BitVec 32) : Fin 2 → Nat :=
  let arg0 : BitVec 32 := BitVec.ofNat 32 (i 0).val
  let c1024_i32 : BitVec 32 := 1024#32
  let v3 : BitVec 32 := Scalar.muli arg0 c1024_i32
  let v4 : BitVec 32 := Scalar.addi v3 c0_i32_1
  let v20 : Index := Scalar.indexCast v4
  let c0_11 : Index := 0#32
  ![v20.toNat, 0]
def k0_off2 (i : grid0.Coords) (c0_i32_1 : BitVec 32) : Fin 2 → Nat :=
  let arg0 : BitVec 32 := BitVec.ofNat 32 (i 0).val
  let c1024_i32 : BitVec 32 := 1024#32
  let v3 : BitVec 32 := Scalar.muli arg0 c1024_i32
  let v4 : BitVec 32 := Scalar.addi v3 c0_i32_1
  let v32 : Index := Scalar.indexCast v4
  let c0_16 : Index := 0#32
  ![v32.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S30x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "marker" => some ((25165825 / 16777216 : ℝ) : EReal)
  | _ => none
-- ==== ReferenceIdeal.lean ====
abbrev S4x4096x2048 : Shape := ⟨3, ![4, 4096, 2048]⟩
abbrev S4x4096 : Shape := ⟨2, ![4, 4096]⟩
abbrev S3x10x2048 : Shape := ⟨3, ![3, 10, 2048]⟩
abbrev S2048 : Shape := ⟨1, ![2048]⟩
abbrev S64 : Shape := ⟨1, ![64]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x64 : Shape := ⟨2, ![16384, 64]⟩
abbrev S4096 : Shape := ⟨1, ![4096]⟩
abbrev S1x4096 : Shape := ⟨2, ![1, 4096]⟩
abbrev S1x1x2048 : Shape := ⟨3, ![1, 1, 2048]⟩
abbrev S4x4096x1 : Shape := ⟨3, ![4, 4096, 1]⟩
abbrev S3x10 : Shape := ⟨2, ![3, 10]⟩
abbrev S3x10x1 : Shape := ⟨3, ![3, 10, 1]⟩
abbrev S3x10x4x4096 : Shape := ⟨4, ![3, 10, 4, 4096]⟩
abbrev S4x3x4096x10 : Shape := ⟨4, ![4, 3, 4096, 10]⟩
abbrev S1x1x4096x1 : Shape := ⟨4, ![1, 1, 4096, 1]⟩
abbrev S4x1x4096x10 : Shape := ⟨4, ![4, 1, 4096, 10]⟩
abbrev S4x1x4096x10x1 : Shape := ⟨5, ![4, 1, 4096, 10, 1]⟩
abbrev S1 : Shape := ⟨1, ![1]⟩
abbrev S1x1x1x1x1 : Shape := ⟨5, ![1, 1, 1, 1, 1]⟩
abbrev S4x4096x10 : Shape := ⟨3, ![4, 4096, 10]⟩
abbrev S4x4096x2 : Shape := ⟨3, ![4, 4096, 2]⟩
abbrev S16384x2048 : Shape := ⟨2, ![16384, 2048]⟩

abbrev nBuf : Space → Nat
  | .hbm => 164
  | .vmem => 0
  | .smem => 0
  | _ => 0

abbrev hbmTy0_0 (i : Nat) : BufTy := match i % 128 with
  | 0 => ⟨S4x4096x2048, .f32⟩
  | 1 => ⟨S4x4096, .i32⟩
  | 2 => ⟨S3x10x2048, .f32⟩
  | 3 => ⟨S2048, .f32⟩
  | 4 => ⟨S2048, .f32⟩
  | 5 => ⟨S64, .i32⟩
  | 6 => ⟨S_, .i32⟩
  | 7 => ⟨S64, .i32⟩
  | 8 => ⟨S64, .i32⟩
  | 9 => ⟨S_, .i32⟩
  | 10 => ⟨S64, .i32⟩
  | 11 => ⟨S64, .i32⟩
  | 12 => ⟨S16384, .i32⟩
  | 13 => ⟨S16384x1, .i32⟩
  | 14 => ⟨S1x64, .i32⟩
  | 15 => ⟨S16384x64, .i32⟩
  | 16 => ⟨S16384x64, .i32⟩
  | 17 => ⟨S16384x64, .i1⟩
  | 18 => ⟨S_, .i1⟩
  | 19 => ⟨S16384, .i1⟩
  | 20 => ⟨S4x4096, .i1⟩
  | 21 => ⟨S4096, .f32⟩
  | 22 => ⟨S_, .f32⟩
  | 23 => ⟨S4096, .f32⟩
  | 24 => ⟨S4096, .f32⟩
  | 25 => ⟨S_, .f32⟩
  | 26 => ⟨S4096, .f32⟩
  | 27 => ⟨S4096, .i1⟩
  | 28 => ⟨S1x4096, .i1⟩
  | 29 => ⟨S_, .f32⟩
  | 30 => ⟨S_, .f32⟩
  | 31 => ⟨S1x4096, .f32⟩
  | 32 => ⟨S1x4096, .f32⟩
  | 33 => ⟨S1x4096, .f32⟩
  | 34 => ⟨S_, .f32⟩
  | 35 => ⟨S4x4096, .f32⟩
  | 36 => ⟨S4x4096, .f32⟩
  | 37 => ⟨S4x4096, .f32⟩
  | 38 => ⟨S4x4096, .f32⟩
  | 39 => ⟨S_, .f32⟩
  | 40 => ⟨S4096, .f32⟩
  | 41 => ⟨S4096, .i1⟩
  | 42 => ⟨S_, .f32⟩
  | 43 => ⟨S4096, .f32⟩
  | 44 => ⟨S4096, .i1⟩
  | 45 => ⟨S_, .i32⟩
  | 46 => ⟨S_, .i32⟩
  | 47 => ⟨S4096, .i32⟩
  | 48 => ⟨S4096, .i32⟩
  | 49 => ⟨S4096, .i32⟩
  | 50 => ⟨S_, .i32⟩
  | 51 => ⟨S4096, .i32⟩
  | 52 => ⟨S4096, .i32⟩
  | 53 => ⟨S2048, .f32⟩
  | 54 => ⟨S_, .f32⟩
  | 55 => ⟨S2048, .f32⟩
  | 56 => ⟨S2048, .f32⟩
  | 57 => ⟨S1x1x2048, .f32⟩
  | 58 => ⟨S4x4096x2048, .f32⟩
  | 59 => ⟨S4x4096x2048, .f32⟩
  | 60 => ⟨S1x1x2048, .f32⟩
  | 61 => ⟨S4x4096x2048, .f32⟩
  | 62 => ⟨S4x4096x2048, .f32⟩
  | 63 => ⟨S4x4096x2048, .f32⟩
  | 64 => ⟨S_, .f32⟩
  | 65 => ⟨S4x4096, .f32⟩
  | 66 => ⟨S4x4096x1, .f32⟩
  | 67 => ⟨S4x4096x1, .f32⟩
  | 68 => ⟨S_, .f32⟩
  | 69 => ⟨S4x4096x1, .f32⟩
  | 70 => ⟨S4x4096x1, .f32⟩
  | 71 => ⟨S4x4096x2048, .f32⟩
  | 72 => ⟨S4x4096x2048, .f32⟩
  | 73 => ⟨S3x10x2048, .f32⟩
  | 74 => ⟨S_, .f32⟩
  | 75 => ⟨S3x10, .f32⟩
  | 76 => ⟨S3x10x1, .f32⟩
  | 77 => ⟨S3x10x1, .f32⟩
  | 78 => ⟨S_, .f32⟩
  | 79 => ⟨S3x10x1, .f32⟩
  | 80 => ⟨S3x10x1, .f32⟩
  | 81 => ⟨S3x10x2048, .f32⟩
  | 82 => ⟨S3x10x2048, .f32⟩
  | 83 => ⟨S3x10x4x4096, .f32⟩
  | 84 => ⟨S4x3x4096x10, .f32⟩
  | 85 => ⟨S1x1x4096x1, .i32⟩
  | 86 => ⟨S4x1x4096x10, .i32⟩
  | 87 => ⟨S4x1x4096x10, .i32⟩
  | 88 => ⟨S_, .i32⟩
  | 89 => ⟨S4x1x4096x10, .i32⟩
  | 90 => ⟨S4x1x4096x10, .i1⟩
  | 91 => ⟨S_, .i32⟩
  | 92 => ⟨S4x1x4096x10, .i32⟩
  | 93 => ⟨S4x1x4096x10, .i32⟩
  | 94 => ⟨S4x1x4096x10, .i32⟩
  | 95 => ⟨S4x1x4096x10x1, .i32⟩
  | 96 => ⟨S1, .i32⟩
  | 97 => ⟨S_, .i32⟩
  | 98 => ⟨S4x1x4096x10x1, .i32⟩
  | 99 => ⟨S4x1x4096x10x1, .i1⟩
  | 100 => ⟨S1x1x1x1x1, .i32⟩
  | 101 => ⟨S4x1x4096x10x1, .i32⟩
  | 102 => ⟨S4x1x4096x10x1, .i1⟩
  | 103 => ⟨S4x1x4096x10x1, .i1⟩
  | 104 => ⟨S_, .i1⟩
  | 105 => ⟨S4x1x4096x10, .i1⟩
  | 106 => ⟨S4x1x4096x10, .f32⟩
  | 107 => ⟨S_, .f32⟩
  | 108 => ⟨S4x1x4096x10, .f32⟩
  | 109 => ⟨S4x1x4096x10, .f32⟩
  | 110 => ⟨S4x4096x10, .f32⟩
  | 111 => ⟨S4x4096x10, .i32⟩
  | 112 => ⟨S_, .f32⟩
  | 113 => ⟨S_, .i32⟩
  | 114 => ⟨S4x4096, .f32⟩
  | 115 => ⟨S4x4096, .i32⟩
  | 116 => ⟨S1x4096, .i32⟩
  | 117 => ⟨S4x4096, .i32⟩
  | 118 => ⟨S_, .i32⟩
  | 119 => ⟨S4x4096, .i32⟩
  | 120 => ⟨S4x4096, .i1⟩
  | 121 => ⟨S_, .i32⟩
  | 122 => ⟨S4x4096, .i32⟩
  | 123 => ⟨S4x4096, .i32⟩
  | 124 => ⟨S4x4096, .i32⟩
  | 125 => ⟨S_, .i32⟩
  | 126 => ⟨S4x4096, .i32⟩
  | 127 => ⟨S4x4096, .i1⟩
  | _ => ⟨S4x4096x2048, .f32⟩

abbrev hbmTy0_1 (i : Nat) : BufTy := match i % 128 with
  | 0 => ⟨S_, .i32⟩
  | 1 => ⟨S4x4096, .i32⟩
  | 2 => ⟨S4x4096, .i32⟩
  | 3 => ⟨S4x4096, .i32⟩
  | 4 => ⟨S4x4096x1, .i32⟩
  | 5 => ⟨S4x4096x1, .i32⟩
  | 6 => ⟨S4x4096x2, .i32⟩
  | 7 => ⟨S4x4096x2048, .f32⟩
  | 8 => ⟨S_, .f32⟩
  | 9 => ⟨S4x4096, .f32⟩
  | 10 => ⟨S4x4096, .f32⟩
  | 11 => ⟨S4x4096x1, .f32⟩
  | 12 => ⟨S4x4096x2048, .f32⟩
  | 13 => ⟨S4x4096x2048, .f32⟩
  | 14 => ⟨S4x4096x2048, .f32⟩
  | 15 => ⟨S4x4096x2048, .f32⟩
  | 16 => ⟨S_, .f32⟩
  | 17 => ⟨S4x4096, .f32⟩
  | 18 => ⟨S4x4096x1, .f32⟩
  | 19 => ⟨S4x4096x1, .f32⟩
  | 20 => ⟨S_, .f32⟩
  | 21 => ⟨S4x4096x1, .f32⟩
  | 22 => ⟨S4x4096x1, .f32⟩
  | 23 => ⟨S_, .f32⟩
  | 24 => ⟨S4x4096x1, .f32⟩
  | 25 => ⟨S4x4096x1, .f32⟩
  | 26 => ⟨S_, .f32⟩
  | 27 => ⟨S4x4096x1, .f32⟩
  | 28 => ⟨S4x4096x1, .f32⟩
  | 29 => ⟨S4x4096x2048, .f32⟩
  | 30 => ⟨S4x4096x2048, .f32⟩
  | 31 => ⟨S1x1x2048, .f32⟩
  | 32 => ⟨S4x4096x2048, .f32⟩
  | 33 => ⟨S4x4096x2048, .f32⟩
  | 34 => ⟨S4x4096x2048, .f32⟩
  | 35 => ⟨S16384x2048, .f32⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v13 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_v14 : Ref sig .tc := ⟨.hbm, 37, rfl⟩
abbrev main_v15 : Ref sig .tc := ⟨.hbm, 38, rfl⟩
abbrev main_cst_5 : Ref sig .tc := ⟨.hbm, 39, rfl⟩
abbrev main_v16 : Ref sig .tc := ⟨.hbm, 40, rfl⟩
abbrev main_v17 : Ref sig .tc := ⟨.hbm, 41, rfl⟩
abbrev main_cst_6 : Ref sig .tc := ⟨.hbm, 42, rfl⟩
abbrev main_v18 : Ref sig .tc := ⟨.hbm, 43, rfl⟩
abbrev main_v19 : Ref sig .tc := ⟨.hbm, 44, rfl⟩
abbrev main_c_7 : Ref sig .tc := ⟨.hbm, 45, rfl⟩
abbrev main_c_8 : Ref sig .tc := ⟨.hbm, 46, rfl⟩
abbrev main_call3_v0 : Ref sig .tc := ⟨.hbm, 47, rfl⟩
abbrev main_call3_v1 : Ref sig .tc := ⟨.hbm, 48, rfl⟩
abbrev main_v20 : Ref sig .tc := ⟨.hbm, 49, rfl⟩
abbrev main_c_9 : Ref sig .tc := ⟨.hbm, 50, rfl⟩
abbrev main_call4_v0 : Ref sig .tc := ⟨.hbm, 51, rfl⟩
abbrev main_v21 : Ref sig .tc := ⟨.hbm, 52, rfl⟩
abbrev main_v22 : Ref sig .tc := ⟨.hbm, 53, rfl⟩
abbrev main_cst_10 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_call5_v0 : Ref sig .tc := ⟨.hbm, 63, rfl⟩
abbrev main_call5_cst : Ref sig .tc := ⟨.hbm, 64, rfl⟩
abbrev main_call5_v1 : Ref sig .tc := ⟨.hbm, 65, rfl⟩
abbrev main_call5_v2 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_call6_v0 : Ref sig .tc := ⟨.hbm, 73, rfl⟩
abbrev main_call6_cst : Ref sig .tc := ⟨.hbm, 74, rfl⟩
abbrev main_call6_v1 : Ref sig .tc := ⟨.hbm, 75, rfl⟩
abbrev main_call6_v2 : Ref sig .tc := ⟨.hbm, 76, rfl⟩
abbrev main_v36 : Ref sig .tc := ⟨.hbm, 77, rfl⟩
abbrev main_cst_12 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call7_v0 : Ref sig .tc := ⟨.hbm, 87, rfl⟩
abbrev main_call7_c : Ref sig .tc := ⟨.hbm, 88, rfl⟩
abbrev main_call7_v1 : Ref sig .tc := ⟨.hbm, 89, rfl⟩
abbrev main_call7_v2 : Ref sig .tc := ⟨.hbm, 90, rfl⟩
abbrev main_call7_c_0 : Ref sig .tc := ⟨.hbm, 91, rfl⟩
abbrev main_call7_v3 : Ref sig .tc := ⟨.hbm, 92, rfl⟩
abbrev main_call7_v4 : Ref sig .tc := ⟨.hbm, 93, rfl⟩
abbrev main_call7_v5 : Ref sig .tc := ⟨.hbm, 94, rfl⟩
abbrev main_call7_v6 : Ref sig .tc := ⟨.hbm, 95, rfl⟩
abbrev main_call7_c_1 : Ref sig .tc := ⟨.hbm, 96, rfl⟩
abbrev main_call7_c_2 : Ref sig .tc := ⟨.hbm, 97, rfl⟩
abbrev main_call7_v7 : Ref sig .tc := ⟨.hbm, 98, rfl⟩
abbrev main_call7_v8 : Ref sig .tc := ⟨.hbm, 99, rfl⟩
abbrev main_call7_v9 : Ref sig .tc := ⟨.hbm, 100, rfl⟩
abbrev main_call7_v10 : Ref sig .tc := ⟨.hbm, 101, rfl⟩
abbrev main_call7_v11 : Ref sig .tc := ⟨.hbm, 102, rfl⟩
abbrev main_call7_v12 : Ref sig .tc := ⟨.hbm, 103, rfl⟩
abbrev main_call7_c_3 : Ref sig .tc := ⟨.hbm, 104, rfl⟩
abbrev main_call7_v13 : Ref sig .tc := ⟨.hbm, 105, rfl⟩
abbrev main_call7_v14 : Ref sig .tc := ⟨.hbm, 106, rfl⟩
abbrev main_call7_cst : Ref sig .tc := ⟨.hbm, 107, rfl⟩
abbrev main_call7_v15 : Ref sig .tc := ⟨.hbm, 108, rfl⟩
abbrev main_v45 : Ref sig .tc := ⟨.hbm, 109, rfl⟩
abbrev main_v46 : Ref sig .tc := ⟨.hbm, 110, rfl⟩
abbrev main_call8_v0 : Ref sig .tc := ⟨.hbm, 111, rfl⟩
abbrev main_call8_cst : Ref sig .tc := ⟨.hbm, 112, rfl⟩
abbrev main_call8_c : Ref sig .tc := ⟨.hbm, 113, rfl⟩
abbrev main_call8_v1_0 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_c_13 : Ref sig .tc := ⟨.hbm, 118, rfl⟩
abbrev main_v50 : Ref sig .tc := ⟨.hbm, 119, rfl⟩
abbrev main_v51 : Ref sig .tc := ⟨.hbm, 120, rfl⟩
abbrev main_c_14 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_c_15 : Ref sig .tc := ⟨.hbm, 125, rfl⟩
abbrev main_v55 : Ref sig .tc := ⟨.hbm, 126, rfl⟩
abbrev main_v56 : Ref sig .tc := ⟨.hbm, 127, rfl⟩
abbrev main_c_16 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_17 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_call9_v0 : Ref sig .tc := ⟨.hbm, 143, rfl⟩
abbrev main_call9_cst : Ref sig .tc := ⟨.hbm, 144, rfl⟩
abbrev main_call9_v1 : Ref sig .tc := ⟨.hbm, 145, rfl⟩
abbrev main_call9_v2 : Ref sig .tc := ⟨.hbm, 146, rfl⟩
abbrev main_v70 : Ref sig .tc := ⟨.hbm, 147, rfl⟩
abbrev main_cst_18 : Ref sig .tc := ⟨.hbm, 148, rfl⟩
abbrev main_v71 : Ref sig .tc := ⟨.hbm, 149, rfl⟩
abbrev main_v72 : Ref sig .tc := ⟨.hbm, 150, rfl⟩
abbrev main_cst_19 : Ref sig .tc := ⟨.hbm, 151, rfl⟩
abbrev main_v73 : Ref sig .tc := ⟨.hbm, 152, rfl⟩
abbrev main_v74 : Ref sig .tc := ⟨.hbm, 153, rfl⟩
abbrev main_cst_20 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩

abbrev nD : Nat := 1
abbrev τ : Topo := Topo.v7x

variable {F : FTy → Type} [FloatOps F]
-- ==== Proof.RefRun.lean ====
/-
The reference program's run. The program is host operations only; they are listed here in twelve stages, each
stage's result is a named function of what it reads, and the run leaves in the result buffer those functions'
composition of the arguments.
-/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- Which tokens are markers: those whose id is among 0, 500, 1000, …, 31500. -/
def markers (ids : IVec S4x4096 32) : IVec S4x4096 1 :=
  shapeCast _ (Host.reduce IntOp.ori ((cmpi .eq) ((broadcastInDim S16384x64 ![0, 1] bcast_S16384x1_S16384x64_0_1) ((broadcastInDim S16384x1 ![0] bcast_S16384_S16384x1_0) (shapeCast _ ids shapeCasts_S4x4096_S16384))) ((broadcastInDim S16384x64 ![0, 1] bcast_S1x64_S16384x64_0_1) ((broadcastInDim S1x64 ![1] bcast_S64_S1x64_1) (addi (broadcastInDim S64 ![] bcast_S_S64 (constantI S_ 32 0#32)) (muli (broadcastInDim S64 ![] bcast_S_S64 (constantI S_ 32 500#32)) (iotaInDim S64 32 0)))))) (constantI S_ 1 0#1) reducesTo_S16384x64_S16384_d1 h_S_) shapeCasts_S16384_S4x4096

/-- The position of each token in its sequence, as a share of the length. -/
def relPos  : FVec F S4096 .f32 :=
  Host.divf (sitofp .f32 (iotaInDim S4096 32 0)) (broadcastInDim S4096 ![] bcast_S_S4096 (constant S_ .f32 0x45800000#32))

/-- The factor on the base strength: 5 at a marker, else 2 past 70% of the sequence, else 1. -/
def posScale (mk : IVec S4x4096 1) (rel : FVec F S4096 .f32) : FVec F S4x4096 .f32 :=
  id (select mk ((broadcastInDim S4x4096 ![] bcast_S_S4x4096) (constant S_ .f32 0x40A00000#32)) ((broadcastInDim S4x4096 ![0, 1] bcast_S1x4096_S4x4096_0_1) (select (broadcastInDim S1x4096 ![1] bcast_S4096_S1x4096_1 (cmpf .ogt rel (broadcastInDim S4096 ![] bcast_S_S4096 (constant S_ .f32 0x3F333333#32)))) ((broadcastInDim S1x4096 ![] bcast_S_S1x4096) (constant S_ .f32 0x40000000#32)) ((broadcastInDim S1x4096 ![] bcast_S_S1x4096) (constant S_ .f32 0x3F800000#32)))))

/-- The codebook of each position: 0 in the first 30%, 1 up to 70%, 2 after. -/
def posType (rel : FVec F S4096 .f32) : IVec S4096 32 :=
  select (cmpf .olt rel (broadcastInDim S4096 ![] bcast_S_S4096 (constant S_ .f32 0x3E99999A#32))) ((broadcastInDim S4096 ![] bcast_S_S4096) (constantI S_ 32 0#32)) (select (cmpf .olt rel (broadcastInDim S4096 ![] bcast_S_S4096 (constant S_ .f32 0x3F333333#32))) ((broadcastInDim S4096 ![] bcast_S_S4096) (constantI S_ 32 1#32)) ((broadcastInDim S4096 ![] bcast_S_S4096) (constantI S_ 32 2#32)))

/-- The standard deviation of each feature: the root of its variance, plus 1e-8. -/
def stdOf (var : FVec F S2048 .f32) : FVec F S2048 .f32 :=
  addf (Host.sqrt var) (broadcastInDim S2048 ![] bcast_S_S2048 (constant S_ .f32 0x322BCC77#32))

/-- The whitened tokens: centred, over the standard deviation. -/
def whiten (std : FVec F S2048 .f32) (mean : FVec F S2048 .f32) (x : FVec F S4x4096x2048 .f32) : FVec F S4x4096x2048 .f32 :=
  Host.divf (subf x (broadcastInDim S4x4096x2048 ![0, 1, 2] bcast_S1x1x2048_S4x4096x2048_0_1_2 (broadcastInDim S1x1x2048 ![2] bcast_S2048_S1x1x2048_2 mean))) (broadcastInDim S4x4096x2048 ![0, 1, 2] bcast_S1x1x2048_S4x4096x2048_0_1_2 (broadcastInDim S1x1x2048 ![2] bcast_S2048_S1x1x2048_2 std))

/-- The whitened tokens, each over its length. -/
def unitTokens (w : FVec F S4x4096x2048 .f32) : FVec F S4x4096x2048 .f32 :=
  Host.divf w (broadcastInDim S4x4096x2048 ![0, 1, 2] bcast_S4x4096x1_S4x4096x2048_0_1_2 (maximumf (Host.sqrt ((broadcastInDim S4x4096x1 ![0, 1] bcast_S4x4096_S4x4096x1_0_1) (Host.reduceAdd (mulf w w) (constant S_ .f32 0x00000000#32) reducesTo_S4x4096x2048_S4x4096_d2 h_S_))) (broadcastInDim S4x4096x1 ![] bcast_S_S4x4096x1 (constant S_ .f32 0x2B8CBCCC#32))))

/-- The attractors, each over its length. -/
def unitAttractors (a : FVec F S3x10x2048 .f32) : FVec F S3x10x2048 .f32 :=
  Host.divf a (broadcastInDim S3x10x2048 ![0, 1, 2] bcast_S3x10x1_S3x10x2048_0_1_2 (maximumf (Host.sqrt ((broadcastInDim S3x10x1 ![0, 1] bcast_S3x10_S3x10x1_0_1) (Host.reduceAdd (mulf a a) (constant S_ .f32 0x00000000#32) reducesTo_S3x10x2048_S3x10_d2 h_S_))) (broadcastInDim S3x10x1 ![] bcast_S_S3x10x1 (constant S_ .f32 0x2B8CBCCC#32))))

/-- The similarity of every token with every attractor of every codebook. -/
def simsAll (n : FVec F S3x10x2048 .f32) (h : FVec F S4x4096x2048 .f32) : FVec F S4x3x4096x10 .f32 :=
  transpose S4x3x4096x10 [2, 0, 3, 1] (Host.dotGeneral dot_S3x10x2048_S4x4096x2048_S3x10x4x4096_2_2_01_01_n_n none n h) transposes_S3x10x4x4096_S4x3x4096x10_2_0_3_1

/-- The similarities of a token with the attractors of its position's codebook. -/
def simsHere (pt : IVec S4096 32) (all : FVec F S4x3x4096x10 .f32) : FVec F S4x4096x10 .f32 :=
  shapeCast _ (select (Host.reduce IntOp.andi (andi ((cmpi .sge) (shapeCast _ (select ((cmpi .slt) (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 0#32))) (addi (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 3#32))) (id (broadcastInDim S4x1x4096x10 ![0, 1, 2, 3] bcast_S1x1x4096x1_S4x1x4096x10_0_1_2_3 (broadcastInDim S1x1x4096x1 ![2] bcast_S4096_S1x1x4096x1_2 pt)))) shapeCasts_S4x1x4096x10_S4x1x4096x10x1) ((broadcastInDim S4x1x4096x10x1 ![] bcast_S_S4x1x4096x10x1) (constantI S_ 32 0#32))) ((cmpi .sle) (shapeCast _ (select ((cmpi .slt) (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 0#32))) (addi (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 3#32))) (id (broadcastInDim S4x1x4096x10 ![0, 1, 2, 3] bcast_S1x1x4096x1_S4x1x4096x10_0_1_2_3 (broadcastInDim S1x1x4096x1 ![2] bcast_S4096_S1x1x4096x1_2 pt)))) shapeCasts_S4x1x4096x10_S4x1x4096x10x1) ((broadcastInDim S4x1x4096x10x1 ![0, 1, 2, 3, 4] bcast_S1x1x1x1x1_S4x1x4096x10x1_0_1_2_3_4) ((broadcastInDim S1x1x1x1x1 ![4] bcast_S1_S1x1x1x1x1_4) (constantI S1 32 2#32))))) (constantI S_ 1 1#1) reducesTo_S4x1x4096x10x1_S4x1x4096x10_d4 h_S_) (Host.gather gather_S4x3x4096x10_S4x1x4096x10x1_S4x1x4096x10_n_1_023_023_1_4_1111 all (shapeCast _ (select ((cmpi .slt) (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 0#32))) (addi (id (broadcastInDim S4x1x4096x10 ![0, 1, 2, 3] bcast_S1x1x4096x1_S4x1x4096x10_0_1_2_3 (broadcastInDim S1x1x4096x1 ![2] bcast_S4096_S1x1x4096x1_2 pt))) ((broadcastInDim S4x1x4096x10 ![] bcast_S_S4x1x4096x10) (constantI S_ 32 3#32))) (id (broadcastInDim S4x1x4096x10 ![0, 1, 2, 3] bcast_S1x1x4096x1_S4x1x4096x10_0_1_2_3 (broadcastInDim S1x1x4096x1 ![2] bcast_S4096_S1x1x4096x1_2 pt)))) shapeCasts_S4x1x4096x10_S4x1x4096x10x1)) ((broadcastInDim S4x1x4096x10 ![] bcast_S_S4x1x4096x10) (constant S_ .f32 0x7FC00000#32))) shapeCasts_S4x1x4096x10_S4x4096x10

/-- The number of the most similar attractor. -/
def bestIdx (sims : FVec F S4x4096x10 .f32) : IVec S4x4096 32 :=
  fun j => (Host.argReduce reducer_argmax_f32_i32 sims (iotaInDim S4x4096x10 32 2) (constant S_ .f32 0xFF800000#32) (constantI S_ 32 0#32) reducesTo_S4x4096x10_S4x4096_d2 h_S_ j).2

/-- That attractor, over its length. -/
def chosen (pt : IVec S4096 32) (idx : IVec S4x4096 32) (n : FVec F S3x10x2048 .f32) : FVec F S4x4096x2048 .f32 :=
  Host.gather gather_S3x10x2048_S4x4096x2_S4x4096x2048_2_01_n_n_01_2_112048 n (concatenate S4x4096x2 2 [⟨S4x4096x1, (broadcastInDim S4x4096x1 ![0, 1] bcast_S4x4096_S4x4096x1_0_1 (select (cmpi .slt (broadcastInDim S4x4096 ![0, 1] bcast_S1x4096_S4x4096_0_1 (broadcastInDim S1x4096 ![1] bcast_S4096_S1x4096_1 pt)) (broadcastInDim S4x4096 ![] bcast_S_S4x4096 (constantI S_ 32 0#32))) (addi (broadcastInDim S4x4096 ![0, 1] bcast_S1x4096_S4x4096_0_1 (broadcastInDim S1x4096 ![1] bcast_S4096_S1x4096_1 pt)) (broadcastInDim S4x4096 ![] bcast_S_S4x4096 (constantI S_ 32 3#32))) (broadcastInDim S4x4096 ![0, 1] bcast_S1x4096_S4x4096_0_1 (broadcastInDim S1x4096 ![1] bcast_S4096_S1x4096_1 pt))))⟩, ⟨S4x4096x1, (broadcastInDim S4x4096x1 ![0, 1] bcast_S4x4096_S4x4096x1_0_1 (select (cmpi .slt idx (broadcastInDim S4x4096 ![] bcast_S_S4x4096 (constantI S_ 32 0#32))) (addi idx (broadcastInDim S4x4096 ![] bcast_S_S4x4096 (constantI S_ 32 10#32))) idx))⟩] concatenates_S4x4096x1_S4x4096x1_S4x4096x2_d2)

/-- The displacement towards the chosen attractor, before it is clipped. -/
def pull (scale : FVec F S4x4096 .f32) (sel : FVec F S4x4096x2048 .f32) (h : FVec F S4x4096x2048 .f32) : FVec F S4x4096x2048 .f32 :=
  mulf (broadcastInDim S4x4096x2048 ![0, 1, 2] bcast_S4x4096x1_S4x4096x2048_0_1_2 (broadcastInDim S4x4096x1 ![0, 1] bcast_S4x4096_S4x4096x1_0_1 (mulf (broadcastInDim S4x4096 ![] bcast_S_S4x4096 (constant S_ .f32 0x3E99999A#32)) scale))) (subf sel h)

/-- The displacement clipped to length at most 1/2, brought back to the scale of the input and added to it. -/
def applied (d : FVec F S4x4096x2048 .f32) (std : FVec F S2048 .f32) (x : FVec F S4x4096x2048 .f32) : FVec F S16384x2048 .f32 :=
  shapeCast _ (addf x (mulf (mulf d (broadcastInDim S4x4096x2048 ![0, 1, 2] bcast_S4x4096x1_S4x4096x2048_0_1_2 (minimumf (broadcastInDim S4x4096x1 ![] bcast_S_S4x4096x1 (constant S_ .f32 0x3F800000#32)) (Host.divf (broadcastInDim S4x4096x1 ![] bcast_S_S4x4096x1 (constant S_ .f32 0x3F000000#32)) (maximumf (Host.sqrt ((broadcastInDim S4x4096x1 ![0, 1] bcast_S4x4096_S4x4096x1_0_1) (Host.reduceAdd (mulf d d) (constant S_ .f32 0x00000000#32) reducesTo_S4x4096x2048_S4x4096_d2 h_S_))) (broadcastInDim S4x4096x1 ![] bcast_S_S4x4096x1 (constant S_ .f32 0x2B8CBCCC#32))))))) (broadcastInDim S4x4096x2048 ![0, 1, 2] bcast_S1x1x2048_S4x4096x2048_0_1_2 (broadcastInDim S1x1x2048 ![2] bcast_S2048_S1x1x2048_2 std)))) shapeCasts_S4x4096x2048_S16384x2048

/-- The operations of stage A. -/
abbrev opsA : List (HloOp τ sig (Elt F)) :=
  [ nullary main_v0 (iotaInDim S64 32 0),
    nullary main_c (constantI S_ 32 500#32),
    unary main_c main_v1 (broadcastInDim S64 ![] bcast_S_S64 : (⟨S_, .i32⟩ : BufTy).Contents (Elt F) → (⟨S64, .i32⟩ : BufTy).Contents (Elt F)),
    binary main_v1 main_v0 main_v2 (muli : (⟨S64, .i32⟩ : BufTy).Contents (Elt F) → (⟨S64, .i32⟩ : BufTy).Contents (Elt F) → (⟨S64, .i32⟩ : BufTy).Contents (Elt F)),
    nullary main_c_0 (constantI S_ 32 0#32),
    unary main_c_0 main_v3 (broadcastInDim S64 ![] bcast_S_S64 : (⟨S_, .i32⟩ : BufTy).Contents (Elt F) → (⟨S64, .i32⟩ : BufTy).Contents (Elt F)),
    binary main_v3 main_v2 main_v4 (addi : (⟨S64, .i32⟩ : BufTy).Contents (Elt F) → (⟨S64, .i32⟩ : BufTy).Contents (Elt F) → (⟨S64, .i32⟩ : BufTy).Contents (Elt F)),
    TRef.reshape (TRef.of (T := ⟨S4x4096, .i32⟩) main_arg1) (TRef.of (T := ⟨S16384, .i32⟩) main_call0_v0) (rfl : (.i32 : EltTy) = .i32) shapeCasts_S4x4096_S16384,
    TRef.unary (TRef.of (T := ⟨S16384, .i32⟩) main_call0_v0) (TRef.of (T := ⟨S16384x1, .i32⟩) main_call0_v1) (broadcastInDim S16384x1 ![0] bcast_S16384_S16384x1_0),
    TRef.unary (TRef.of (T := ⟨S64, .i32⟩) main_v4) (TRef.of (T := ⟨S1x64, .i32⟩) main_call0_v2) (broadcastInDim S1x64 ![1] bcast_S64_S1x64_1),
    TRef.unary (TRef.of (T := ⟨S16384x1, .i32⟩) main_call0_v1) (TRef.of (T := ⟨S16384x64, .i32⟩) main_call0_v3) (broadcastInDim S16384x64 ![0, 1] bcast_S16384x1_S16384x64_0_1),
    TRef.unary (TRef.of (T := ⟨S1x64, .i32⟩) main_call0_v2) (TRef.of (T := ⟨S16384x64, .i32⟩) main_call0_v4) (broadcastInDim S16384x64 ![0, 1] bcast_S1x64_S16384x64_0_1),
    TRef.binary (TRef.of (T := ⟨S16384x64, .i32⟩) main_call0_v3) (TRef.of (T := ⟨S16384x64, .i32⟩) main_call0_v4) (TRef.of (T := ⟨S16384x64, .i1⟩) main_call0_v5) (cmpi .eq),
    TRef.nullary (TRef.of (T := ⟨S_, .i1⟩) main_call0_c) (constantI S_ 1 0#1),
    TRef.binary (TRef.of (T := ⟨S16384x64, .i1⟩) main_call0_v5) (TRef.of (T := ⟨S_, .i1⟩) main_call0_c) (TRef.of (T := ⟨S16384, .i1⟩) main_v5) (fun x v => Host.reduce IntOp.ori x v reducesTo_S16384x64_S16384_d1 h_S_),
    reshape main_v5 main_v6 (rfl : (.i1 : EltTy) = .i1) shapeCasts_S16384_S4x4096 ]

/-- The buffers stage A writes. -/
abbrev outsA : List (Ref sig .tc) := [main_v0, main_c, main_v1, main_v2, main_c_0, main_v3, main_v4, main_call0_v0, main_call0_v1, main_call0_v2, main_call0_v3, main_call0_v4, main_call0_v5, main_call0_c, main_v5, main_v6]

set_option maxRecDepth 8192 in
/-- Stage A writes only those. -/
theorem opsA_writes : (opsA : List (HloOp τ sig (Elt F))).Forall fun op => op.writes ⊆ (outsA.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage A touches only declared buffers. -/
theorem opsA_sub : (opsA : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., reshape_bufs_sub .., unary_bufs_sub .., unary_bufs_sub .., unary_bufs_sub .., unary_bufs_sub .., binary_bufs_sub .., nullary_bufs_sub .., binary_bufs_sub .., reshape_bufs_sub ..⟩

set_option maxRecDepth 8192 in
/-- No operation of stage A takes a fresh buffer. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
set_option maxHeartbeats 2000000 in
/-- What stage A leaves in buffer `main_v6`. -/
theorem opsA_main_v6 (V : Valuation τ sig (Elt F)) :
    after opsA V (Proc.devRef .tc main_v6) = markers (V (Proc.devRef .tc main_arg1)) := by
  simp only [opsA, TRef.binary, TRef.nullary, TRef.reshape, TRef.ternary, TRef.unary, TRef.quaternary, TRef.toBuf, TRef.ofBuf, cast_eq]
  after_results_simp
  all_goals rfl

/-- The operations of stage B. -/
abbrev opsB : List (HloOp τ sig (Elt F)) :=
  [ nullary main_v7 (sitofp .f32 (iotaInDim S4096 32 0)),
    nullary main_cst (constant S_ .f32 0x45800000#32),
    unary main_cst main_v8 (broadcastInDim S4096 ![] bcast_S_S4096 : (⟨S_, .f32⟩ : BufTy).Contents (Elt F) → (⟨S4096, .f32⟩ : BufTy).Contents (Elt F)),
    binary main_v7 main_v8 main_v9 (Host.divf : (⟨S4096, .f32⟩ : BufTy).Contents (Elt F) → (⟨S4096, .f32⟩ : BufTy).Contents (Elt F) → (⟨S4096, .f32⟩ : BufTy).Contents (Elt F)),
    nullary main_cst_1 (constant S_ .f32 0x3F333333#32),
    unary main_cst_1 main_v10 (broadcastInDim S4096 ![] bcast_S_S4096 : (⟨S_, .f32⟩ : BufTy).Contents (Elt F) → (⟨S4096, .f32⟩ : BufTy).Contents (Elt F)),
    binary main_v9 main_v10 main_v11 (cmpf .ogt : (⟨S4096, .f32⟩ : BufTy).Contents (Elt F) → (⟨S4096, .f32⟩ : BufTy).Contents (Elt F) → (⟨S4096, .i1⟩ : BufTy).Contents (Elt F)),
    unary main_v11 main_v12 (broadcastInDim S1x4096 ![1] bcast_S4096_S1x4096_1 : (⟨S4096, .i1⟩ : BufTy).Contents (Elt F) → (⟨S1x4096, .i1⟩ : BufTy).Contents (Elt F)),
    nullary main_cst_2 (constant S_ .f32 0x40000000#32),
    nullary main_cst_3 (constant S_ .f32 0x3F800000#32),
    TRef.unary (TRef.of (T := ⟨S_, .f32⟩) main_cst_2) (TRef.of (T := ⟨S1x4096, .f32⟩) main_call1_v0) (broadcastInDim S1x4096 ![] bcast_S_S1x4096),
    TRef.unary (TRef.of (T := ⟨S_, .f32⟩) main_cst_3) (TRef.of (T := ⟨S1x4096, .f32⟩) main_call1_v1) (broadcastInDim S1x4096 ![] bcast_S_S1x4096),
    TRef.ternary (TRef.of (T := ⟨S1x4096, .i1⟩) main_v12) (TRef.of (T := ⟨S1x4096, .f32⟩) main_call1_v0) (TRef.of (T := ⟨S1x4096, .f32⟩) main_call1_v1) (TRef.of (T := ⟨S1x4096, .f32⟩) main_v13) select,
    nullary main_cst_4 (constant S_ .f32 0x40A00000#32),
    TRef.unary (TRef.of (T := ⟨S_, .f32⟩) main_cst_4) (TRef.of (T := ⟨S4x4096, .f32⟩) main_call2_v0) (broadcastInDim S4x4096 ![] bcast_S_S4x4096),
    TRef.unary (TRef.of (T := ⟨S1x4096, .f32⟩) main_v13) (TRef.of (T := ⟨S4x4096, .f32⟩) main_call2_v1) (broadcastInDim S4x4096 ![0, 1] bcast_S1x4096_S4x4096_0_1),
    TRef.ternary (TRef.of (T := ⟨S4x4096, .i1⟩) main_v6) (TRef.of (T := ⟨S4x4096, .f32⟩) main_call2_v0) (TRef.of (T := ⟨S4x4096, .f32⟩) main_call2_v1) (TRef.of (T := ⟨S4x4096, .f32⟩) main_v14) select,
    unary main_v14 main_v15 (id : (⟨S4x4096, .f32⟩ : BufTy).Contents (Elt F) → (⟨S4x4096, .f32⟩ : BufTy).Contents (Elt F)) ]

/-- The buffers stage B writes. -/
abbrev outsB : List (Ref sig .tc) := [main_v7, main_cst, main_v8, main_v9, main_cst_1, main_v10, main_v11, main_v12, main_cst_2, main_cst_3, main_call1_v0, main_call1_v1, main_v13, main_cst_4, main_call2_v0, main_call2_v1, main_v14, main_v15]

set_option maxRecDepth 8192 in
/-- Stage B writes only those. -/
theorem opsB_writes : (opsB : List (HloOp τ sig (Elt F))).Forall fun op => op.writes ⊆ (outsB.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage B touches only declared buffers. -/
theorem opsB_sub : (opsB : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., unary_bufs_sub .., nullary_bufs_sub .., nullary_bufs_sub .., unary_bufs_sub .., unary_bufs_sub .., ternary_bufs_sub .., nullary_bufs_sub .., unary_bufs_sub .., unary_bufs_sub .., ternary_bufs_sub .., unary_bufs_sub ..⟩

set_option maxRecDepth 8192 in
/-- No operation of stage B takes a fresh buffer. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 8192 in
set_option maxHeartbeats 2000000 in
/-- What stage B leaves in buffer `main_v9`. -/
theorem opsB_main_v9 (V : Valuation τ sig (Elt F)) :
    after opsB V (Proc.devRef .tc main_v9) = relPos (F := F) := by
  simp only [opsB, TRef.binary, TRef.nullary, TRef.reshape, TRef.ternary, TRef.unary, TRef.quaternary, TRef.toBuf, TRef.ofBuf, cast_eq]
  after_results_simp
  all_goals rfl

set_option maxRecDepth 8192 in
set_option maxHeartbeats 2000000 in
/-- What stage B leaves in buffer `main_v15`. -/
theorem opsB_main_v15 (V : Valuation τ sig (Elt F)) :
    after opsB V (Proc.devRef .tc main_v15) = posScale (V (Proc.devRef .tc main_v6)) (relPos (F := F)) := by
  simp only [opsB, TRef.binary, TRef.nullary, TRef.reshape, TRef.ternary, TRef.unary, TRef.quaternary, TRef.toBuf, TRef.ofBuf, cast_eq]
  after_results_simp
  all_goals rfl

/-- The operations of stage C. -/
abbrev opsC : List (HloOp τ sig (Elt F)) :=
  [ nullary main_cst_5 (constant S_ .f32 0x3E99999A#32),
    unary main_cst_5 main_v16 (broadcastInDim S4096 ![] bcast_S_S4096 : (⟨S_, .f32⟩ : BufTy).Contents (Elt F) → (⟨S4096, .f32⟩ : BufTy).Contents (Elt F)),
    binary main_v9 main_v16 main_v17 (cmpf .olt : (⟨S4096, .f32⟩ : BufTy).Contents (Elt F) → (⟨S4096, .f32⟩ : BufTy).Contents (Elt F) → (⟨S4096, .i1⟩ : BufTy).Contents (Elt F)),
    nullary main_cst_6 (constant S_ .f32 0x3F333333#32),
    unary main_cst_6 main_v18 (broadcastInDim S4096 ![] bcast_S_S4096 : (⟨S_, .f32⟩ : BufTy).Contents (Elt F) → (⟨S4096, .f32⟩ : BufTy).Contents (Elt F)),
    binary main_v9 main_v18 main_v19 (cmpf .olt : (⟨S4096, .f32⟩ : BufTy).Contents (Elt F) → (⟨S4096, .f32⟩ : BufTy).Contents (Elt F) → (⟨S4096, .i1⟩ : BufTy).Contents (Elt F)),
    nullary main_c_7 (constantI S_ 32 1#32),
    nullary main_c_8 (constantI S_ 32 2#32),
    TRef.unary (TRef.of (T := ⟨S_, .i32⟩) main_c_7) (TRef.of (T := ⟨S4096, .i32⟩) main_call3_v0) (broadcastInDim S4096 ![] bcast_S_S4096),
    TRef.unary (TRef.of (T := ⟨S_, .i32⟩) main_c_8) (TRef.of (T := ⟨S4096, .i32⟩) main_call3_v1) (broadcastInDim S4096 ![] bcast_S_S4096),
    TRef.ternary (TRef.of (T := ⟨S4096, .i1⟩) main_v19) (TRef.of (T := ⟨S4096, .i32⟩) main_call3_v0) (TRef.of (T := ⟨S4096, .i32⟩) main_call3_v1) (TRef.of (T := ⟨S4096, .i32⟩) main_v20) select,
    nullary main_c_9 (constantI S_ 32 0#32),
    TRef.unary (TRef.of (T := ⟨S_, .i32⟩) main_c_9) (TRef.of (T := ⟨S4096, .i32⟩) main_call4_v0) (broadcastInDim S4096 ![] bcast_S_S4096),
    TRef.ternary (TRef.of (T := ⟨S4096, .i1⟩) main_v17) (TRef.of (T := ⟨S4096, .i32⟩) main_call4_v0) (TRef.of (T := ⟨S4096, .i32⟩) main_v20) (TRef.of (T := ⟨S4096, .i32⟩) main_v21) select ]

/-- The buffers stage C writes. -/
abbrev outsC : List (Ref sig .tc) := [main_cst_5, main_v16, main_v17, main_cst_6, main_v18, main_v19, main_c_7, main_c_8, main_call3_v0, main_call3_v1, main_v20, main_c_9, main_call4_v0, main_v21]

set_option maxRecDepth 8192 in
/-- Stage C writes only those. -/
theorem opsC_writes : (opsC : List (HloOp τ sig (Elt F))).Forall fun op => op.writes ⊆ (outsC.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage C touches only declared buffers. -/
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., nullary_bufs_sub .., unary_bufs_sub .., unary_bufs_sub .., ternary_bufs_sub .., nullary_bufs_sub .., unary_bufs_sub .., ternary_bufs_sub ..⟩

set_option maxRecDepth 8192 in
/-- No operation of stage C takes a fresh buffer. -/
theorem opsC_fresh : (opsC : List (HloOp τ sig (Elt F))).Forall fun op => op.fresh = ∅ :=
  ⟨rfl, rfl, rfl, rfl, rfl, rfl, rfl, rfl, rfl, rfl, rfl, rfl, rfl, rfl⟩

set_option maxRecDepth 8192 in
set_option maxHeartbeats 2000000 in
/-- What stage C leaves in buffer `main_v21`. -/
theorem opsC_main_v21 (V : Valuation τ sig (Elt F)) :
    after opsC V (Proc.devRef .tc main_v21) = posType (V (Proc.devRef .tc main_v9)) := by
  simp only [opsC, TRef.binary, TRef.nullary, TRef.reshape, TRef.ternary, TRef.unary, TRef.quaternary, TRef.toBuf, TRef.ofBuf, cast_eq]
  after_results_simp
  all_goals rfl

/-- The operations of stage D. -/
abbrev opsD : List (HloOp τ sig (Elt F)) :=
  [ unary main_arg4 main_v22 (Host.sqrt : (⟨S2048, .f32⟩ : BufTy).Contents (Elt F) → (⟨S2048, .f32⟩ : BufTy).Contents (Elt F)),
    nullary main_cst_10 (constant S_ .f32 0x322BCC77#32),
    unary main_cst_10 main_v23 (broadcastInDim S2048 ![] bcast_S_S2048 : (⟨S_, .f32⟩ : BufTy).Contents (Elt F) → (⟨S2048, .f32⟩ : BufTy).Contents (Elt F)),
    binary main_v22 main_v23 main_v24 (addf : (⟨S2048, .f32⟩ : BufTy).Contents (Elt F) → (⟨S2048, .f32⟩ : BufTy).Contents (Elt F) → (⟨S2048, .f32⟩ : BufTy).Contents (Elt F)),
    unary main_arg3 main_v25 (broadcastInDim S1x1x2048 ![2] bcast_S2048_S1x1x2048_2 : (⟨S2048, .f32⟩ : BufTy).Contents (Elt F) → (⟨S1x1x2048, .f32⟩ : BufTy).Contents (Elt F)),
    unary main_v25 main_v26 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_arg0 main_v26 main_v27 (subf : (⟨S4x4096x2048, .f32⟩ : BufTy).Contents (Elt F) → (⟨S4x4096x2048, .f32⟩ : BufTy).Contents (Elt F) → (⟨S4x4096x2048, .f32⟩ : BufTy).Contents (Elt F)),
    unary main_v24 main_v28 (broadcastInDim S1x1x2048 ![2] bcast_S2048_S1x1x2048_2 : (⟨S2048, .f32⟩ : BufTy).Contents (Elt F) → (⟨S1x1x2048, .f32⟩ : BufTy).Contents (Elt F)),
    unary main_v28 main_v29 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v27 main_v29 main_v30 (Host.divf : (⟨S4x4096x2048, .f32⟩ : BufTy).Contents (Elt F) → (⟨S4x4096x2048, .f32⟩ : BufTy).Contents (Elt F) → (⟨S4x4096x2048, .f32⟩ : BufTy).Contents (Elt F)) ]

/-- The buffers stage D writes. -/
abbrev outsD : List (Ref sig .tc) := [main_v22, main_cst_10, main_v23, main_v24, main_v25, main_v26, main_v27, main_v28, main_v29, main_v30]

set_option maxRecDepth 8192 in
/-- Stage D writes only those. -/
theorem opsD_writes : (opsD : List (HloOp τ sig (Elt F))).Forall fun op => op.writes ⊆ (outsD.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage D touches only declared buffers. -/
theorem opsD_sub : (opsD : List (HloOp τ sig (Elt F))).Forall fun op => op.bufs ⊆ tcRefs τ sig :=
  ⟨unary_bufs_sub .., nullary_bufs_sub .., unary_bufs_sub .., binary_bufs_sub .., unary_bufs_sub .., unary_bufs_sub .., binary_bufs_sub .., unary_bufs_sub .., unary_bufs_sub .., binary_bufs_sub ..⟩

set_option maxRecDepth 8192 in
/-- No operation of stage D takes a fresh buffer. -/
theorem opsD_fresh : (opsD : List (HloOp τ sig (Elt F))).Forall fun op => op.fresh = ∅ :=
  ⟨rfl, rfl, rfl, rfl, rfl, rfl, rfl, rfl, rfl, rfl⟩

set_option maxRecDepth 8192 in
set_option maxHeartbeats 2000000 in
/-- What stage D leaves in buffer `main_v24`. -/
theorem opsD_main_v24 (V : Valuation τ sig (Elt F)) :
    after opsD V (Proc.devRef .tc main_v24) = stdOf (V (Proc.devRef .tc main_arg4)) := by
  simp only [opsD, TRef.binary, TRef.nullary, TRef.reshape, TRef.ternary, TRef.unary, TRef.quaternary, TRef.toBuf, TRef.ofBuf, cast_eq]
  after_results_simp
  all_goals rfl

set_option maxRecDepth 8192 in
set_option maxHeartbeats 2000000 in
/-- What stage D leaves in buffer `main_v30`. -/
theorem opsD_main_v30 (V : Valuation τ sig (Elt F)) :
    after opsD V (Proc.devRef .tc main_v30) = whiten (stdOf (V (Proc.devRef .tc main_arg4))) (V (Proc.devRef .tc main_arg3)) (V (Proc.devRef .tc main_arg0)) := by
  simp only [opsD, TRef.binary, TRef.nullary, TRef.reshape, TRef.ternary, TRef.unary, TRef.quaternary, TRef.toBuf, TRef.ofBuf, cast_eq]
  after_results_simp
  all_goals rfl

/-- The operations of stage E. -/
abbrev opsE : List (HloOp τ sig (Elt F)) :=
  [ TRef.binary (TRef.of (T := ⟨S4x4096x2048, .f32⟩) main_v30) (TRef.of (T := ⟨S4x4096x2048, .f32⟩) main_v30) (TRef.of (T := ⟨S4x4096x2048, .f32⟩) main_call5_v0) mulf,
    TRef.nullary (TRef.of (T := ⟨S_, .f32⟩) main_call5_cst) (constant S_ .f32 0x00000000#32),
    TRef.binary (TRef.of (T := ⟨S4x4096x2048, .f32⟩) main_call5_v0) (TRef.of (T := ⟨S_, .f32⟩) main_call5_cst) (TRef.of (T := ⟨S4x4096, .f32⟩) main_call5_v1) (fun x v => Host.reduceAdd x v reducesTo_S4x4096x2048_S4x4096_d2 h_S_),
    TRef.unary (TRef.of (T := ⟨S4x4096, .f32⟩) main_call5_v1) (TRef.of (T := ⟨S4x4096x1, .f32⟩) main_call5_v2) (broadcastInDim S4x4096x1 ![0, 1] bcast_S4x4096_S4x4096x1_0_1),
    TRef.unary (TRef.of (T := ⟨S4x4096x1, .f32⟩) main_call5_v2) (TRef.of (T := ⟨S4x4096x1, .f32⟩) main_v31) Host.sqrt,
    nullary main_cst_11 (constant S_ .f32 0x2B8CBCCC#32),
    unary main_cst_11 main_v32 (broadcastInDim S4x4096x1 ![] bcast_S_S4x4096x1 : (⟨S_, .f32⟩ : BufTy).Contents (Elt F) → (⟨S4x4096x1, .f32⟩ : BufTy).Contents (Elt F)),
    binary main_v31 main_v32 main_v33 (maximumf : (⟨S4x4096x1, .f32⟩ : BufTy).Contents (Elt F) → (⟨S4x4096x1, .f32⟩ : BufTy).Contents (Elt F) → (⟨S4x4096x1, .f32⟩ : BufTy).Contents (Elt F)),
    unary main_v33 main_v34 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v30 main_v34 main_v35 (Host.divf : (⟨S4x4096x2048, .f32⟩ : BufTy).Contents (Elt F) → (⟨S4x4096x2048, .f32⟩ : BufTy).Contents (Elt F) → (⟨S4x4096x2048, .f32⟩ : BufTy).Contents (Elt F)) ]

/-- The buffers stage E writes. -/
abbrev outsE : List (Ref sig .tc) := [main_call5_v0, main_call5_cst, main_call5_v1, main_call5_v2, main_v31, main_cst_11, main_v32, main_v33, main_v34, main_v35]

set_option maxRecDepth 8192 in
/-- Stage E writes only those. -/
theorem opsE_writes : (opsE : List (HloOp τ sig (Elt F))).Forall fun op => op.writes ⊆ (outsE.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage E touches only declared buffers. -/
theorem opsE_sub : (opsE : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
/-- No operation of stage E takes a fresh buffer. -/
theorem opsE_fresh : (opsE : List (HloOp τ sig (Elt F))).Forall fun op => op.fresh = ∅ :=
  ⟨rfl, rfl, rfl, rfl, rfl, rfl, rfl, rfl, rfl, rfl⟩

set_option maxRecDepth 8192 in
set_option maxHeartbeats 2000000 in
/-- What stage E leaves in buffer `main_v35`. -/
theorem opsE_main_v35 (V : Valuation τ sig (Elt F)) :
    after opsE V (Proc.devRef .tc main_v35) = unitTokens (V (Proc.devRef .tc main_v30)) := by
  simp only [opsE, TRef.binary, TRef.nullary, TRef.reshape, TRef.ternary, TRef.unary, TRef.quaternary, TRef.toBuf, TRef.ofBuf, cast_eq]
  after_results_simp
  all_goals rfl

/-- The operations of stage G. -/
abbrev opsG : List (HloOp τ sig (Elt F)) :=
  [ TRef.binary (TRef.of (T := ⟨S3x10x2048, .f32⟩) main_arg2) (TRef.of (T := ⟨S3x10x2048, .f32⟩) main_arg2) (TRef.of (T := ⟨S3x10x2048, .f32⟩) main_call6_v0) mulf,
    TRef.nullary (TRef.of (T := ⟨S_, .f32⟩) main_call6_cst) (constant S_ .f32 0x00000000#32),
    TRef.binary (TRef.of (T := ⟨S3x10x2048, .f32⟩) main_call6_v0) (TRef.of (T := ⟨S_, .f32⟩) main_call6_cst) (TRef.of (T := ⟨S3x10, .f32⟩) main_call6_v1) (fun x v => Host.reduceAdd x v reducesTo_S3x10x2048_S3x10_d2 h_S_),
    TRef.unary (TRef.of (T := ⟨S3x10, .f32⟩) main_call6_v1) (TRef.of (T := ⟨S3x10x1, .f32⟩) main_call6_v2) (broadcastInDim S3x10x1 ![0, 1] bcast_S3x10_S3x10x1_0_1),
    TRef.unary (TRef.of (T := ⟨S3x10x1, .f32⟩) main_call6_v2) (TRef.of (T := ⟨S3x10x1, .f32⟩) main_v36) Host.sqrt,
    nullary main_cst_12 (constant S_ .f32 0x2B8CBCCC#32),
    unary main_cst_12 main_v37 (broadcastInDim S3x10x1 ![] bcast_S_S3x10x1 : (⟨S_, .f32⟩ : BufTy).Contents (Elt F) → (⟨S3x10x1, .f32⟩ : BufTy).Contents (Elt F)),
    binary main_v36 main_v37 main_v38 (maximumf : (⟨S3x10x1, .f32⟩ : BufTy).Contents (Elt F) → (⟨S3x10x1, .f32⟩ : BufTy).Contents (Elt F) → (⟨S3x10x1, .f32⟩ : BufTy).Contents (Elt F)),
    unary main_v38 main_v39 (broadcastInDim S3x10x2048 ![0, 1, 2] bcast_S3x10x1_S3x10x2048_0_1_2 : (⟨S3x10x1, .f32⟩ : BufTy).Contents (Elt F) → (⟨S3x10x2048, .f32⟩ : BufTy).Contents (Elt F)),
    binary main_arg2 main_v39 main_v40 (Host.divf : (⟨S3x10x2048, .f32⟩ : BufTy).Contents (Elt F) → (⟨S3x10x2048, .f32⟩ : BufTy).Contents (Elt F) → (⟨S3x10x2048, .f32⟩ : BufTy).Contents (Elt F)) ]

/-- The buffers stage G writes. -/
abbrev outsG : List (Ref sig .tc) := [main_call6_v0, main_call6_cst, main_call6_v1, main_call6_v2, main_v36, main_cst_12, main_v37, main_v38, main_v39, main_v40]

set_option maxRecDepth 8192 in
/-- Stage G writes only those. -/
theorem opsG_writes : (opsG : List (HloOp τ sig (Elt F))).Forall fun op => op.writes ⊆ (outsG.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage G touches only declared buffers. -/
theorem opsG_sub : (opsG : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub ..⟩

set_option maxRecDepth 8192 in
/-- No operation of stage G takes a fresh buffer. -/
theorem opsG_fresh : (opsG : List (HloOp τ sig (Elt F))).Forall fun op => op.fresh = ∅ :=
  ⟨rfl, rfl, rfl, rfl, rfl, rfl, rfl, rfl, rfl, rfl⟩

set_option maxRecDepth 8192 in
set_option maxHeartbeats 2000000 in
/-- What stage G leaves in buffer `main_v40`. -/
theorem opsG_main_v40 (V : Valuation τ sig (Elt F)) :
    after opsG V (Proc.devRef .tc main_v40) = unitAttractors (V (Proc.devRef .tc main_arg2)) := by
  simp only [opsG, TRef.binary, TRef.nullary, TRef.reshape, TRef.ternary, TRef.unary, TRef.quaternary, TRef.toBuf, TRef.ofBuf, cast_eq]
  after_results_simp
  all_goals rfl

/-- The operations of stage H. -/
abbrev opsH : List (HloOp τ sig (Elt F)) :=
  [ binary main_v40 main_v35 main_v41 ((fun l r => Host.dotGeneral dot_S3x10x2048_S4x4096x2048_S3x10x4x4096_2_2_01_01_n_n none l r) : (⟨S3x10x2048, .f32⟩ : BufTy).Contents (Elt F) → (⟨S4x4096x2048, .f32⟩ : BufTy).Contents (Elt F) → (⟨S3x10x4x4096, .f32⟩ : BufTy).Contents (Elt F)),
    unary main_v41 main_v42 ((transpose S4x3x4096x10 [2, 0, 3, 1] · transposes_S3x10x4x4096_S4x3x4096x10_2_0_3_1) : (⟨S3x10x4x4096, .f32⟩ : BufTy).Contents (Elt F) → (⟨S4x3x4096x10, .f32⟩ : BufTy).Contents (Elt F)) ]

/-- The buffers stage H writes. -/
abbrev outsH : List (Ref sig .tc) := [main_v41, main_v42]

set_option maxRecDepth 8192 in
/-- Stage H writes only those. -/
theorem opsH_writes : (opsH : List (HloOp τ sig (Elt F))).Forall fun op => op.writes ⊆ (outsH.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage H touches only declared buffers. -/
theorem opsH_sub : (opsH : List (HloOp τ sig (Elt F))).Forall fun op => op.bufs ⊆ tcRefs τ sig :=
  ⟨binary_bufs_sub .., unary_bufs_sub ..⟩

set_option maxRecDepth 8192 in
/-- No operation of stage H takes a fresh buffer. -/
theorem opsH_fresh : (opsH : List (HloOp τ sig (Elt F))).Forall fun op => op.fresh = ∅ :=
  ⟨rfl, rfl⟩

set_option maxRecDepth 8192 in
set_option maxHeartbeats 2000000 in
/-- What stage H leaves in buffer `main_v42`. -/
theorem opsH_main_v42 (V : Valuation τ sig (Elt F)) :
    after opsH V (Proc.devRef .tc main_v42) = simsAll (V (Proc.devRef .tc main_v40)) (V (Proc.devRef .tc main_v35)) := by
  simp only [opsH, TRef.binary, TRef.nullary, TRef.reshape, TRef.ternary, TRef.unary, TRef.quaternary, TRef.toBuf, TRef.ofBuf, cast_eq]
  after_results_simp
  all_goals rfl

/-- The operations of stage I. -/
abbrev opsI : List (HloOp τ sig (Elt F)) :=
  [ unary main_v21 main_v43 (broadcastInDim S1x1x4096x1 ![2] bcast_S4096_S1x1x4096x1_2 : (⟨S4096, .i32⟩ : BufTy).Contents (Elt F) → (⟨S1x1x4096x1, .i32⟩ : BufTy).Contents (Elt F)),
    unary main_v43 main_v44 (broadcastInDim S4x1x4096x10 ![0, 1, 2, 3] bcast_S1x1x4096x1_S4x1x4096x10_0_1_2_3 : (⟨S1x1x4096x1, .i32⟩ : BufTy).Contents (Elt F) → (⟨S4x1x4096x10, .i32⟩ : BufTy).Contents (Elt F)),
    TRef.unary (TRef.of (T := ⟨S4x1x4096x10, .i32⟩) main_v44) (TRef.of (T := ⟨S4x1x4096x10, .i32⟩) main_call7_v0) id,
    TRef.nullary (TRef.of (T := ⟨S_, .i32⟩) main_call7_c) (constantI S_ 32 0#32),
    TRef.unary (TRef.of (T := ⟨S_, .i32⟩) main_call7_c) (TRef.of (T := ⟨S4x1x4096x10, .i32⟩) main_call7_v1) (broadcastInDim S4x1x4096x10 ![] bcast_S_S4x1x4096x10),
    TRef.binary (TRef.of (T := ⟨S4x1x4096x10, .i32⟩) main_call7_v0) (TRef.of (T := ⟨S4x1x4096x10, .i32⟩) main_call7_v1) (TRef.of (T := ⟨S4x1x4096x10, .i1⟩) main_call7_v2) (cmpi .slt),
    TRef.nullary (TRef.of (T := ⟨S_, .i32⟩) main_call7_c_0) (constantI S_ 32 3#32),
    TRef.unary (TRef.of (T := ⟨S_, .i32⟩) main_call7_c_0) (TRef.of (T := ⟨S4x1x4096x10, .i32⟩) main_call7_v3) (broadcastInDim S4x1x4096x10 ![] bcast_S_S4x1x4096x10),
    TRef.binary (TRef.of (T := ⟨S4x1x4096x10, .i32⟩) main_call7_v0) (TRef.of (T := ⟨S4x1x4096x10, .i32⟩) main_call7_v3) (TRef.of (T := ⟨S4x1x4096x10, .i32⟩) main_call7_v4) addi,
    TRef.ternary (TRef.of (T := ⟨S4x1x4096x10, .i1⟩) main_call7_v2) (TRef.of (T := ⟨S4x1x4096x10, .i32⟩) main_call7_v4) (TRef.of (T := ⟨S4x1x4096x10, .i32⟩) main_call7_v0) (TRef.of (T := ⟨S4x1x4096x10, .i32⟩) main_call7_v5) select,
    TRef.reshape (TRef.of (T := ⟨S4x1x4096x10, .i32⟩) main_call7_v5) (TRef.of (T := ⟨S4x1x4096x10x1, .i32⟩) main_call7_v6) (rfl : (.i32 : EltTy) = .i32) shapeCasts_S4x1x4096x10_S4x1x4096x10x1,
    TRef.nullary (TRef.of (T := ⟨S1, .i32⟩) main_call7_c_1) (constantI S1 32 2#32),
    TRef.nullary (TRef.of (T := ⟨S_, .i32⟩) main_call7_c_2) (constantI S_ 32 0#32),
    TRef.unary (TRef.of (T := ⟨S_, .i32⟩) main_call7_c_2) (TRef.of (T := ⟨S4x1x4096x10x1, .i32⟩) main_call7_v7) (broadcastInDim S4x1x4096x10x1 ![] bcast_S_S4x1x4096x10x1),
    TRef.binary (TRef.of (T := ⟨S4x1x4096x10x1, .i32⟩) main_call7_v6) (TRef.of (T := ⟨S4x1x4096x10x1, .i32⟩) main_call7_v7) (TRef.of (T := ⟨S4x1x4096x10x1, .i1⟩) main_call7_v8) (cmpi .sge),
    TRef.unary (TRef.of (T := ⟨S1, .i32⟩) main_call7_c_1) (TRef.of (T := ⟨S1x1x1x1x1, .i32⟩) main_call7_v9) (broadcastInDim S1x1x1x1x1 ![4] bcast_S1_S1x1x1x1x1_4),
    TRef.unary (TRef.of (T := ⟨S1x1x1x1x1, .i32⟩) main_call7_v9) (TRef.of (T := ⟨S4x1x4096x10x1, .i32⟩) main_call7_v10) (broadcastInDim S4x1x4096x10x1 ![0, 1, 2, 3, 4] bcast_S1x1x1x1x1_S4x1x4096x10x1_0_1_2_3_4),
    TRef.binary (TRef.of (T := ⟨S4x1x4096x10x1, .i32⟩) main_call7_v6) (TRef.of (T := ⟨S4x1x4096x10x1, .i32⟩) main_call7_v10) (TRef.of (T := ⟨S4x1x4096x10x1, .i1⟩) main_call7_v11) (cmpi .sle),
    TRef.binary (TRef.of (T := ⟨S4x1x4096x10x1, .i1⟩) main_call7_v8) (TRef.of (T := ⟨S4x1x4096x10x1, .i1⟩) main_call7_v11) (TRef.of (T := ⟨S4x1x4096x10x1, .i1⟩) main_call7_v12) andi,
    TRef.nullary (TRef.of (T := ⟨S_, .i1⟩) main_call7_c_3) (constantI S_ 1 1#1),
    TRef.binary (TRef.of (T := ⟨S4x1x4096x10x1, .i1⟩) main_call7_v12) (TRef.of (T := ⟨S_, .i1⟩) main_call7_c_3) (TRef.of (T := ⟨S4x1x4096x10, .i1⟩) main_call7_v13) (fun x v => Host.reduce IntOp.andi x v reducesTo_S4x1x4096x10x1_S4x1x4096x10_d4 h_S_),
    TRef.binary (TRef.of (T := ⟨S4x3x4096x10, .f32⟩) main_v42) (TRef.of (T := ⟨S4x1x4096x10x1, .i32⟩) main_call7_v6) (TRef.of (T := ⟨S4x1x4096x10, .f32⟩) main_call7_v14) (fun x i => Host.gather gather_S4x3x4096x10_S4x1x4096x10x1_S4x1x4096x10_n_1_023_023_1_4_1111 x i),
    TRef.nullary (TRef.of (T := ⟨S_, .f32⟩) main_call7_cst) (constant S_ .f32 0x7FC00000#32),
    TRef.unary (TRef.of (T := ⟨S_, .f32⟩) main_call7_cst) (TRef.of (T := ⟨S4x1x4096x10, .f32⟩) main_call7_v15) (broadcastInDim S4x1x4096x10 ![] bcast_S_S4x1x4096x10),
    TRef.ternary (TRef.of (T := ⟨S4x1x4096x10, .i1⟩) main_call7_v13) (TRef.of (T := ⟨S4x1x4096x10, .f32⟩) main_call7_v14) (TRef.of (T := ⟨S4x1x4096x10, .f32⟩) main_call7_v15) (TRef.of (T := ⟨S4x1x4096x10, .f32⟩) main_v45) select,
    reshape main_v45 main_v46 (rfl : (.f32 : EltTy) = .f32) shapeCasts_S4x1x4096x10_S4x4096x10 ]

/-- The buffers stage I writes. -/
abbrev outsI : List (Ref sig .tc) := [main_v43, main_v44, main_call7_v0, main_call7_c, main_call7_v1, main_call7_v2, main_call7_c_0, main_call7_v3, main_call7_v4, main_call7_v5, main_call7_v6, main_call7_c_1, main_call7_c_2, main_call7_v7, main_call7_v8, main_call7_v9, main_call7_v10, main_call7_v11, main_call7_v12, main_call7_c_3, main_call7_v13, main_call7_v14, main_call7_cst, main_call7_v15, main_v45, main_v46]

set_option maxRecDepth 8192 in
/-- Stage I writes only those. -/
theorem opsI_writes : (opsI : List (HloOp τ sig (Elt F))).Forall fun op => op.writes ⊆ (outsI.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage I touches only declared buffers. -/
theorem opsI_sub : (opsI : List (HloOp τ sig (Elt F))).Forall fun op => op.bufs ⊆ tcRefs τ sig :=
  ⟨unary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

set_option maxRecDepth 8192 in
/-- No operation of stage I takes a fresh buffer. -/
theorem opsI_fresh : (opsI : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

set_option maxRecDepth 8192 in
set_option maxHeartbeats 2000000 in
/-- What stage I leaves in buffer `main_v46`. -/
theorem opsI_main_v46 (V : Valuation τ sig (Elt F)) :
    after opsI V (Proc.devRef .tc main_v46) = simsHere (V (Proc.devRef .tc main_v21)) (V (Proc.devRef .tc main_v42)) := by
  simp only [opsI, TRef.binary, TRef.nullary, TRef.reshape, TRef.ternary, TRef.unary, TRef.quaternary, TRef.toBuf, TRef.ofBuf, cast_eq]
  after_results_simp
  all_goals rfl

/-- The operations of stage J. -/
abbrev opsJ : List (HloOp τ sig (Elt F)) :=
  [ TRef.nullary (TRef.of (T := ⟨S4x4096x10, .i32⟩) main_call8_v0) (iotaInDim S4x4096x10 32 2),
    TRef.nullary (TRef.of (T := ⟨S_, .f32⟩) main_call8_cst) (constant S_ .f32 0xFF800000#32),
    TRef.nullary (TRef.of (T := ⟨S_, .i32⟩) main_call8_c) (constantI S_ 32 0#32),
    TRef.quaternary (TRef.of (T := ⟨S4x4096x10, .f32⟩) main_v46) (TRef.of (T := ⟨S4x4096x10, .i32⟩) main_call8_v0) (TRef.of (T := ⟨S_, .f32⟩) main_call8_cst) (TRef.of (T := ⟨S_, .i32⟩) main_call8_c) (TRef.of (T := ⟨S4x4096, .f32⟩) main_call8_v1_0) (fun x y u v j => (Host.argReduce reducer_argmax_f32_i32 x y u v reducesTo_S4x4096x10_S4x4096_d2 h_S_ j).1),
    TRef.quaternary (TRef.of (T := ⟨S4x4096x10, .f32⟩) main_v46) (TRef.of (T := ⟨S4x4096x10, .i32⟩) main_call8_v0) (TRef.of (T := ⟨S_, .f32⟩) main_call8_cst) (TRef.of (T := ⟨S_, .i32⟩) main_call8_c) (TRef.of (T := ⟨S4x4096, .i32⟩) main_v47) (fun x y u v j => (Host.argReduce reducer_argmax_f32_i32 x y u v reducesTo_S4x4096x10_S4x4096_d2 h_S_ j).2) ]

/-- The buffers stage J writes. -/
abbrev outsJ : List (Ref sig .tc) := [main_call8_v0, main_call8_cst, main_call8_c, main_call8_v1_0, main_v47]

set_option maxRecDepth 8192 in
/-- Stage J writes only those. -/
theorem opsJ_writes : (opsJ : List (HloOp τ sig (Elt F))).Forall fun op => op.writes ⊆ (outsJ.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage J touches only declared buffers. -/
theorem opsJ_sub : (opsJ : List (HloOp τ sig (Elt F))).Forall fun op => op.bufs ⊆ tcRefs τ sig :=
  ⟨nullary_bufs_sub .., nullary_bufs_sub .., nullary_bufs_sub .., quaternary_bufs_sub .., quaternary_bufs_sub ..⟩

set_option maxRecDepth 8192 in
/-- No operation of stage J takes a fresh buffer. -/
theorem opsJ_fresh : (opsJ : List (HloOp τ sig (Elt F))).Forall fun op => op.fresh = ∅ :=
  ⟨rfl, rfl, rfl, rfl, rfl⟩

set_option maxRecDepth 8192 in
set_option maxHeartbeats 2000000 in
/-- What stage J leaves in buffer `main_v47`. -/
theorem opsJ_main_v47 (V : Valuation τ sig (Elt F)) :
    after opsJ V (Proc.devRef .tc main_v47) = bestIdx (V (Proc.devRef .tc main_v46)) := by
  simp only [opsJ, TRef.binary, TRef.nullary, TRef.reshape, TRef.ternary, TRef.unary, TRef.quaternary, TRef.toBuf, TRef.ofBuf, cast_eq]
  after_results_simp
  all_goals rfl

/-- The operations of stage K. -/
abbrev opsK : List (HloOp τ sig (Elt F)) :=
  [ unary main_v21 main_v48 (broadcastInDim S1x4096 ![1] bcast_S4096_S1x4096_1 : (⟨S4096, .i32⟩ : BufTy).Contents (Elt F) → (⟨S1x4096, .i32⟩ : BufTy).Contents (Elt F)),
    unary main_v48 main_v49 (broadcastInDim S4x4096 ![0, 1] bcast_S1x4096_S4x4096_0_1 : (⟨S1x4096, .i32⟩ : BufTy).Contents (Elt F) → (⟨S4x4096, .i32⟩ : BufTy).Contents (Elt F)),
    nullary main_c_13 (constantI S_ 32 0#32),
    unary main_c_13 main_v50 (broadcastInDim S4x4096 ![] bcast_S_S4x4096 : (⟨S_, .i32⟩ : BufTy).Contents (Elt F) → (⟨S4x4096, .i32⟩ : BufTy).Contents (Elt F)),
    binary main_v49 main_v50 main_v51 (cmpi .slt : (⟨S4x4096, .i32⟩ : BufTy).Contents (Elt F) → (⟨S4x4096, .i32⟩ : BufTy).Contents (Elt F) → (⟨S4x4096, .i1⟩ : BufTy).Contents (Elt F)),
    nullary main_c_14 (constantI S_ 32 3#32),
    unary main_c_14 main_v52 (broadcastInDim S4x4096 ![] bcast_S_S4x4096 : (⟨S_, .i32⟩ : BufTy).Contents (Elt F) → (⟨S4x4096, .i32⟩ : BufTy).Contents (Elt F)),
    binary main_v49 main_v52 main_v53 (addi : (⟨S4x4096, .i32⟩ : BufTy).Contents (Elt F) → (⟨S4x4096, .i32⟩ : BufTy).Contents (Elt F) → (⟨S4x4096, .i32⟩ : BufTy).Contents (Elt F)),
    ternary main_v51 main_v53 main_v49 main_v54 (select : (⟨S4x4096, .i1⟩ : BufTy).Contents (Elt F) → (⟨S4x4096, .i32⟩ : BufTy).Contents (Elt F) → (⟨S4x4096, .i32⟩ : BufTy).Contents (Elt F) → (⟨S4x4096, .i32⟩ : BufTy).Contents (Elt F)),
    nullary main_c_15 (constantI S_ 32 0#32),
    unary main_c_15 main_v55 (broadcastInDim S4x4096 ![] bcast_S_S4x4096 : (⟨S_, .i32⟩ : BufTy).Contents (Elt F) → (⟨S4x4096, .i32⟩ : BufTy).Contents (Elt F)),
    binary main_v47 main_v55 main_v56 (cmpi .slt : (⟨S4x4096, .i32⟩ : BufTy).Contents (Elt F) → (⟨S4x4096, .i32⟩ : BufTy).Contents (Elt F) → (⟨S4x4096, .i1⟩ : BufTy).Contents (Elt F)),
    nullary main_c_16 (constantI S_ 32 10#32),
    unary main_c_16 main_v57 (broadcastInDim S4x4096 ![] bcast_S_S4x4096 : (⟨S_, .i32⟩ : BufTy).Contents (Elt F) → (⟨S4x4096, .i32⟩ : BufTy).Contents (Elt F)),
    binary main_v47 main_v57 main_v58 (addi : (⟨S4x4096, .i32⟩ : BufTy).Contents (Elt F) → (⟨S4x4096, .i32⟩ : BufTy).Contents (Elt F) → (⟨S4x4096, .i32⟩ : BufTy).Contents (Elt F)),
    ternary main_v56 main_v58 main_v47 main_v59 (select : (⟨S4x4096, .i1⟩ : BufTy).Contents (Elt F) → (⟨S4x4096, .i32⟩ : BufTy).Contents (Elt F) → (⟨S4x4096, .i32⟩ : BufTy).Contents (Elt F) → (⟨S4x4096, .i32⟩ : BufTy).Contents (Elt F)),
    unary main_v54 main_v60 (broadcastInDim S4x4096x1 ![0, 1] bcast_S4x4096_S4x4096x1_0_1 : (⟨S4x4096, .i32⟩ : BufTy).Contents (Elt F) → (⟨S4x4096x1, .i32⟩ : BufTy).Contents (Elt F)),
    unary main_v59 main_v61 (broadcastInDim S4x4096x1 ![0, 1] bcast_S4x4096_S4x4096x1_0_1 : (⟨S4x4096, .i32⟩ : BufTy).Contents (Elt F) → (⟨S4x4096x1, .i32⟩ : BufTy).Contents (Elt F)),
    binary main_v60 main_v61 main_v62 ((fun a b => concatenate S4x4096x2 2 [⟨S4x4096x1, a⟩, ⟨S4x4096x1, b⟩] concatenates_S4x4096x1_S4x4096x1_S4x4096x2_d2) : (⟨S4x4096x1, .i32⟩ : BufTy).Contents (Elt F) → (⟨S4x4096x1, .i32⟩ : BufTy).Contents (Elt F) → (⟨S4x4096x2, .i32⟩ : BufTy).Contents (Elt F)),
    binary main_v40 main_v62 main_v63 ((fun x i => Host.gather gather_S3x10x2048_S4x4096x2_S4x4096x2048_2_01_n_n_01_2_112048 x i) : (⟨S3x10x2048, .f32⟩ : BufTy).Contents (Elt F) → (⟨S4x4096x2, .i32⟩ : BufTy).Contents (Elt F) → (⟨S4x4096x2048, .f32⟩ : BufTy).Contents (Elt F)) ]

/-- The buffers stage K writes. -/
abbrev outsK : List (Ref sig .tc) := [main_v48, main_v49, main_c_13, main_v50, main_v51, main_c_14, main_v52, main_v53, main_v54, main_c_15, main_v55, main_v56, main_c_16, main_v57, main_v58, main_v59, main_v60, main_v61, main_v62, main_v63]

set_option maxRecDepth 8192 in
/-- Stage K writes only those. -/
theorem opsK_writes : (opsK : List (HloOp τ sig (Elt F))).Forall fun op => op.writes ⊆ (outsK.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage K touches only declared buffers. -/
theorem opsK_sub : (opsK : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩

set_option maxRecDepth 8192 in
/-- No operation of stage K takes a fresh buffer. -/
theorem opsK_fresh : (opsK : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

set_option maxRecDepth 8192 in
set_option maxHeartbeats 2000000 in
/-- What stage K leaves in buffer `main_v63`. -/
theorem opsK_main_v63 (V : Valuation τ sig (Elt F)) :
    after opsK V (Proc.devRef .tc main_v63) = chosen (V (Proc.devRef .tc main_v21)) (V (Proc.devRef .tc main_v47)) (V (Proc.devRef .tc main_v40)) := by
  simp only [opsK, TRef.binary, TRef.nullary, TRef.reshape, TRef.ternary, TRef.unary, TRef.quaternary, TRef.toBuf, TRef.ofBuf, cast_eq]
  after_results_simp
  all_goals rfl

/-- The operations of stage L. -/
abbrev opsL : List (HloOp τ sig (Elt F)) :=
  [ nullary main_cst_17 (constant S_ .f32 0x3E99999A#32),
    unary main_cst_17 main_v64 (broadcastInDim S4x4096 ![] bcast_S_S4x4096 : (⟨S_, .f32⟩ : BufTy).Contents (Elt F) → (⟨S4x4096, .f32⟩ : BufTy).Contents (Elt F)),
    binary main_v64 main_v15 main_v65 (mulf : (⟨S4x4096, .f32⟩ : BufTy).Contents (Elt F) → (⟨S4x4096, .f32⟩ : BufTy).Contents (Elt F) → (⟨S4x4096, .f32⟩ : BufTy).Contents (Elt F)),
    unary main_v65 main_v66 (broadcastInDim S4x4096x1 ![0, 1] bcast_S4x4096_S4x4096x1_0_1 : (⟨S4x4096, .f32⟩ : BufTy).Contents (Elt F) → (⟨S4x4096x1, .f32⟩ : BufTy).Contents (Elt F)),
    binary main_v63 main_v35 main_v67 (subf : (⟨S4x4096x2048, .f32⟩ : BufTy).Contents (Elt F) → (⟨S4x4096x2048, .f32⟩ : BufTy).Contents (Elt F) → (⟨S4x4096x2048, .f32⟩ : BufTy).Contents (Elt F)),
    unary main_v66 main_v68 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v68 main_v67 main_v69 (mulf : (⟨S4x4096x2048, .f32⟩ : BufTy).Contents (Elt F) → (⟨S4x4096x2048, .f32⟩ : BufTy).Contents (Elt F) → (⟨S4x4096x2048, .f32⟩ : BufTy).Contents (Elt F)) ]

/-- The buffers stage L writes. -/
abbrev outsL : List (Ref sig .tc) := [main_cst_17, main_v64, main_v65, main_v66, main_v67, main_v68, main_v69]

set_option maxRecDepth 8192 in
/-- Stage L writes only those. -/
theorem opsL_writes : (opsL : List (HloOp τ sig (Elt F))).Forall fun op => op.writes ⊆ (outsL.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage L touches only declared buffers. -/
theorem opsL_sub : (opsL : List (HloOp τ sig (Elt F))).Forall fun op => op.bufs ⊆ tcRefs τ sig :=
  ⟨nullary_bufs_sub .., unary_bufs_sub .., binary_bufs_sub .., unary_bufs_sub .., binary_bufs_sub .., unary_bufs_sub .., binary_bufs_sub ..⟩

set_option maxRecDepth 8192 in
/-- No operation of stage L takes a fresh buffer. -/
theorem opsL_fresh : (opsL : List (HloOp τ sig (Elt F))).Forall fun op => op.fresh = ∅ :=
  ⟨rfl, rfl, rfl, rfl, rfl, rfl, rfl⟩

set_option maxRecDepth 8192 in
set_option maxHeartbeats 2000000 in
/-- What stage L leaves in buffer `main_v69`. -/
theorem opsL_main_v69 (V : Valuation τ sig (Elt F)) :
    after opsL V (Proc.devRef .tc main_v69) = pull (V (Proc.devRef .tc main_v15)) (V (Proc.devRef .tc main_v63)) (V (Proc.devRef .tc main_v35)) := by
  simp only [opsL, TRef.binary, TRef.nullary, TRef.reshape, TRef.ternary, TRef.unary, TRef.quaternary, TRef.toBuf, TRef.ofBuf, cast_eq]
  after_results_simp
  all_goals rfl

/-- The operations of stage M. -/
abbrev opsM : List (HloOp τ sig (Elt F)) :=
  [ TRef.binary (TRef.of (T := ⟨S4x4096x2048, .f32⟩) main_v69) (TRef.of (T := ⟨S4x4096x2048, .f32⟩) main_v69) (TRef.of (T := ⟨S4x4096x2048, .f32⟩) main_call9_v0) mulf,
    TRef.nullary (TRef.of (T := ⟨S_, .f32⟩) main_call9_cst) (constant S_ .f32 0x00000000#32),
    TRef.binary (TRef.of (T := ⟨S4x4096x2048, .f32⟩) main_call9_v0) (TRef.of (T := ⟨S_, .f32⟩) main_call9_cst) (TRef.of (T := ⟨S4x4096, .f32⟩) main_call9_v1) (fun x v => Host.reduceAdd x v reducesTo_S4x4096x2048_S4x4096_d2 h_S_),
    TRef.unary (TRef.of (T := ⟨S4x4096, .f32⟩) main_call9_v1) (TRef.of (T := ⟨S4x4096x1, .f32⟩) main_call9_v2) (broadcastInDim S4x4096x1 ![0, 1] bcast_S4x4096_S4x4096x1_0_1),
    TRef.unary (TRef.of (T := ⟨S4x4096x1, .f32⟩) main_call9_v2) (TRef.of (T := ⟨S4x4096x1, .f32⟩) main_v70) Host.sqrt,
    nullary main_cst_18 (constant S_ .f32 0x2B8CBCCC#32),
    unary main_cst_18 main_v71 (broadcastInDim S4x4096x1 ![] bcast_S_S4x4096x1 : (⟨S_, .f32⟩ : BufTy).Contents (Elt F) → (⟨S4x4096x1, .f32⟩ : BufTy).Contents (Elt F)),
    binary main_v70 main_v71 main_v72 (maximumf : (⟨S4x4096x1, .f32⟩ : BufTy).Contents (Elt F) → (⟨S4x4096x1, .f32⟩ : BufTy).Contents (Elt F) → (⟨S4x4096x1, .f32⟩ : BufTy).Contents (Elt F)),
    nullary main_cst_19 (constant S_ .f32 0x3F000000#32),
    unary main_cst_19 main_v73 (broadcastInDim S4x4096x1 ![] bcast_S_S4x4096x1 : (⟨S_, .f32⟩ : BufTy).Contents (Elt F) → (⟨S4x4096x1, .f32⟩ : BufTy).Contents (Elt F)),
    binary main_v73 main_v72 main_v74 (Host.divf : (⟨S4x4096x1, .f32⟩ : BufTy).Contents (Elt F) → (⟨S4x4096x1, .f32⟩ : BufTy).Contents (Elt F) → (⟨S4x4096x1, .f32⟩ : BufTy).Contents (Elt F)),
    nullary main_cst_20 (constant S_ .f32 0x3F800000#32),
    unary main_cst_20 main_v75 (broadcastInDim S4x4096x1 ![] bcast_S_S4x4096x1 : (⟨S_, .f32⟩ : BufTy).Contents (Elt F) → (⟨S4x4096x1, .f32⟩ : BufTy).Contents (Elt F)),
    binary main_v75 main_v74 main_v76 (minimumf : (⟨S4x4096x1, .f32⟩ : BufTy).Contents (Elt F) → (⟨S4x4096x1, .f32⟩ : BufTy).Contents (Elt F) → (⟨S4x4096x1, .f32⟩ : BufTy).Contents (Elt F)),
    unary main_v76 main_v77 (broadcastInDim S4x4096x2048 ![0, 1, 2] bcast_S4x4096x1_S4x4096x2048_0_1_2 : (⟨S4x4096x1, .f32⟩ : BufTy).Contents (Elt F) → (⟨S4x4096x2048, .f32⟩ : BufTy).Contents (Elt F)),
    binary main_v69 main_v77 main_v78 (mulf : (⟨S4x4096x2048, .f32⟩ : BufTy).Contents (Elt F) → (⟨S4x4096x2048, .f32⟩ : BufTy).Contents (Elt F) → (⟨S4x4096x2048, .f32⟩ : BufTy).Contents (Elt F)),
    unary main_v24 main_v79 (broadcastInDim S1x1x2048 ![2] bcast_S2048_S1x1x2048_2 : (⟨S2048, .f32⟩ : BufTy).Contents (Elt F) → (⟨S1x1x2048, .f32⟩ : BufTy).Contents (Elt F)),
    unary main_v79 main_v80 (broadcastInDim S4x4096x2048 ![0, 1, 2] bcast_S1x1x2048_S4x4096x2048_0_1_2 : (⟨S1x1x2048, .f32⟩ : BufTy).Contents (Elt F) → (⟨S4x4096x2048, .f32⟩ : BufTy).Contents (Elt F)),
    binary main_v78 main_v80 main_v81 (mulf : (⟨S4x4096x2048, .f32⟩ : BufTy).Contents (Elt F) → (⟨S4x4096x2048, .f32⟩ : BufTy).Contents (Elt F) → (⟨S4x4096x2048, .f32⟩ : BufTy).Contents (Elt F)),
    binary main_arg0 main_v81 main_v82 (addf : (⟨S4x4096x2048, .f32⟩ : BufTy).Contents (Elt F) → (⟨S4x4096x2048, .f32⟩ : BufTy).Contents (Elt F) → (⟨S4x4096x2048, .f32⟩ : BufTy).Contents (Elt F)),
    reshape main_v82 main_v83 (rfl : (.f32 : EltTy) = .f32) shapeCasts_S4x4096x2048_S16384x2048 ]

/-- The buffers stage M writes. -/
abbrev outsM : List (Ref sig .tc) := [main_call9_v0, main_call9_cst, main_call9_v1, main_call9_v2, main_v70, main_cst_18, main_v71, main_v72, main_cst_19, main_v73, main_v74, main_cst_20, main_v75, main_v76, main_v77, main_v78, main_v79, main_v80, main_v81, main_v82, main_v83]

set_option maxRecDepth 8192 in
/-- Stage M writes only those. -/
theorem opsM_writes : (opsM : List (HloOp τ sig (Elt F))).Forall fun op => op.writes ⊆ (outsM.map (Proc.devRef (τ := τ) .tc)).toFinset := by
  simp only [List.Forall, nullary_writes, unary_writes, binary_writes, ternary_writes, quaternary_writes, reshape_writes, Finset.singleton_subset_iff, List.mem_toFinset]
  repeat' apply And.intro
  all_goals exact List.mem_map_of_mem (by decide)

set_option maxRecDepth 8192 in
/-- Stage M touches only declared buffers. -/
theorem opsM_sub : (opsM : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., unary_bufs_sub .., unary_bufs_sub .., binary_bufs_sub .., binary_bufs_sub .., reshape_bufs_sub ..⟩

set_option maxRecDepth 8192 in
/-- No operation of stage M takes a fresh buffer. -/
theorem opsM_fresh : (opsM : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

set_option maxRecDepth 8192 in
set_option maxHeartbeats 2000000 in
/-- What stage M leaves in buffer `main_v83`. -/
theorem opsM_main_v83 (V : Valuation τ sig (Elt F)) :
    after opsM V (Proc.devRef .tc main_v83) = applied (V (Proc.devRef .tc main_v69)) (V (Proc.devRef .tc main_v24)) (V (Proc.devRef .tc main_arg0)) := by
  simp only [opsM, TRef.binary, TRef.nullary, TRef.reshape, TRef.ternary, TRef.unary, TRef.quaternary, TRef.toBuf, TRef.ofBuf, cast_eq]
  after_results_simp
  all_goals rfl

/-- The reference program's operations, in order. -/
def ops : List (HloOp τ sig (Elt F)) :=
  opsA ++ (opsB ++ (opsC ++ (opsD ++ (opsE ++ (opsG ++ (opsH ++ (opsI ++ (opsJ ++ (opsK ++ (opsL ++ (opsM)))))))))))

set_option maxRecDepth 8192 in
set_option maxHeartbeats 4000000 in
/-- The program is its operations in sequence. -/
theorem main_eq (c : Dev nD) : main (F := F) c = seq ops := by
  exact rfl

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- What holds of every stage's operations holds of all of them. -/
theorem forall_ops {p : HloOp τ sig (Elt F) → Prop} (hA : opsA.Forall p) (hB : opsB.Forall p) (hC : opsC.Forall p)
    (hD : opsD.Forall p) (hE : opsE.Forall p) (hG : opsG.Forall p) (hH : opsH.Forall p) (hI : opsI.Forall p)
    (hJ : opsJ.Forall p) (hK : opsK.Forall p) (hL : opsL.Forall p) (hM : opsM.Forall p) :
    ∀ op ∈ (ops : List (HloOp τ sig (Elt F))), p op := fun op h => by
  simp only [ops, List.mem_append] at h
  rcases h with h | h | h | h | h | h | h | h | h | h | h | h
  exacts [List.forall_iff_forall_mem.mp hA op h, List.forall_iff_forall_mem.mp hB op h, List.forall_iff_forall_mem.mp hC op h,
    List.forall_iff_forall_mem.mp hD op h, List.forall_iff_forall_mem.mp hE op h, List.forall_iff_forall_mem.mp hG op h,
    List.forall_iff_forall_mem.mp hH op h, List.forall_iff_forall_mem.mp hI op h, List.forall_iff_forall_mem.mp hJ op h,
    List.forall_iff_forall_mem.mp hK op h, List.forall_iff_forall_mem.mp hL op h, List.forall_iff_forall_mem.mp hM op h]

/-- Every operation touches only declared buffers. -/
theorem ops_sub : (ops : List (HloOp τ sig (Elt F))).Forall fun op => op.bufs ⊆ tcRefs τ sig :=
  List.forall_iff_forall_mem.mpr (forall_ops opsA_sub opsB_sub opsC_sub opsD_sub opsE_sub opsG_sub opsH_sub opsI_sub opsJ_sub
    opsK_sub opsL_sub opsM_sub)

/-- No operation of the program takes a fresh buffer. -/
theorem ops_fresh : ∀ op ∈ (ops : List (HloOp τ sig (Elt F))), op.fresh = ∅ :=
  forall_ops opsA_fresh opsB_fresh opsC_fresh opsD_fresh opsE_fresh opsG_fresh opsH_fresh opsI_fresh opsJ_fresh opsK_fresh
    opsL_fresh opsM_fresh

/-- Which tokens are markers: those whose id is among 0, 500, 1000, …, 31500. As a function of the program's arguments. -/
def mkVal (ids : IVec S4x4096 32) : IVec S4x4096 1 :=
  markers ids

/-- The factor on the base strength: 5 at a marker, else 2 past 70% of the sequence, else 1. As a function of the program's arguments. -/
def scaleVal (ids : IVec S4x4096 32) : FVec F S4x4096 .f32 :=
  posScale (mkVal ids) (relPos (F := F))

/-- The codebook of each position: 0 in the first 30%, 1 up to 70%, 2 after. As a function of the program's arguments. -/
def ptVal  : IVec S4096 32 :=
  posType (relPos (F := F))

/-- The standard deviation of each feature: the root of its variance, plus 1e-8. As a function of the program's arguments. -/
def stdVal (var : FVec F S2048 .f32) : FVec F S2048 .f32 :=
  stdOf var

/-- The whitened tokens: centred, over the standard deviation. As a function of the program's arguments. -/
def wVal (x : FVec F S4x4096x2048 .f32) (mean : FVec F S2048 .f32) (var : FVec F S2048 .f32) : FVec F S4x4096x2048 .f32 :=
  whiten (stdVal var) mean x

/-- The whitened tokens, each over its length. As a function of the program's arguments. -/
def hVal (x : FVec F S4x4096x2048 .f32) (mean : FVec F S2048 .f32) (var : FVec F S2048 .f32) : FVec F S4x4096x2048 .f32 :=
  unitTokens (wVal x mean var)

/-- The attractors, each over its length. As a function of the program's arguments. -/
def nVal (a : FVec F S3x10x2048 .f32) : FVec F S3x10x2048 .f32 :=
  unitAttractors a

/-- The similarity of every token with every attractor of every codebook. As a function of the program's arguments. -/
def allVal (x : FVec F S4x4096x2048 .f32) (a : FVec F S3x10x2048 .f32) (mean : FVec F S2048 .f32) (var : FVec F S2048 .f32) : FVec F S4x3x4096x10 .f32 :=
  simsAll (nVal a) (hVal x mean var)

/-- The similarities of a token with the attractors of its position's codebook. As a function of the program's arguments. -/
def simsVal (x : FVec F S4x4096x2048 .f32) (a : FVec F S3x10x2048 .f32) (mean : FVec F S2048 .f32) (var : FVec F S2048 .f32) : FVec F S4x4096x10 .f32 :=
  simsHere (ptVal (F := F)) (allVal x a mean var)

/-- The number of the most similar attractor. As a function of the program's arguments. -/
def idxVal (x : FVec F S4x4096x2048 .f32) (a : FVec F S3x10x2048 .f32) (mean : FVec F S2048 .f32) (var : FVec F S2048 .f32) : IVec S4x4096 32 :=
  bestIdx (simsVal x a mean var)

/-- That attractor, over its length. As a function of the program's arguments. -/
def selVal (x : FVec F S4x4096x2048 .f32) (a : FVec F S3x10x2048 .f32) (mean : FVec F S2048 .f32) (var : FVec F S2048 .f32) : FVec F S4x4096x2048 .f32 :=
  chosen (ptVal (F := F)) (idxVal x a mean var) (nVal a)

/-- The displacement towards the chosen attractor, before it is clipped. As a function of the program's arguments. -/
def dVal (x : FVec F S4x4096x2048 .f32) (ids : IVec S4x4096 32) (a : FVec F S3x10x2048 .f32) (mean : FVec F S2048 .f32) (var : FVec F S2048 .f32) : FVec F S4x4096x2048 .f32 :=
  pull (scaleVal ids) (selVal x a mean var) (hVal x mean var)

/-- The displacement clipped to length at most 1/2, brought back to the scale of the input and added to it. As a function of the program's arguments. -/
def resVal (x : FVec F S4x4096x2048 .f32) (ids : IVec S4x4096 32) (a : FVec F S3x10x2048 .f32) (mean : FVec F S2048 .f32) (var : FVec F S2048 .f32) : FVec F S16384x2048 .f32 :=
  applied (dVal x ids a mean var) (stdVal var) x

/-- The contents after stage A. -/
def atA (V : Valuation τ sig (Elt F)) : Valuation τ sig (Elt F) := after opsA V
/-- Stage A keeps every buffer it does not write. -/
theorem atA_keep (V : Valuation τ sig (Elt F)) (r : Ref sig .tc) (h : r ∉ outsA) :
    atA V (Proc.devRef .tc r) = V (Proc.devRef .tc r) :=
  after_of_writes_sub opsA _ opsA_writes h
/-- The contents after stage B. -/
def atB (V : Valuation τ sig (Elt F)) : Valuation τ sig (Elt F) := after opsB (atA V)
/-- Stage B keeps every buffer it does not write. -/
theorem atB_keep (V : Valuation τ sig (Elt F)) (r : Ref sig .tc) (h : r ∉ outsB) :
    atB V (Proc.devRef .tc r) = atA V (Proc.devRef .tc r) :=
  after_of_writes_sub opsB _ opsB_writes h
/-- The contents after stage C. -/
def atC (V : Valuation τ sig (Elt F)) : Valuation τ sig (Elt F) := after opsC (atB V)
/-- Stage C keeps every buffer it does not write. -/
theorem atC_keep (V : Valuation τ sig (Elt F)) (r : Ref sig .tc) (h : r ∉ outsC) :
    atC V (Proc.devRef .tc r) = atB V (Proc.devRef .tc r) :=
  after_of_writes_sub opsC _ opsC_writes h
/-- The contents after stage D. -/
def atD (V : Valuation τ sig (Elt F)) : Valuation τ sig (Elt F) := after opsD (atC V)
/-- Stage D keeps every buffer it does not write. -/
theorem atD_keep (V : Valuation τ sig (Elt F)) (r : Ref sig .tc) (h : r ∉ outsD) :
    atD V (Proc.devRef .tc r) = atC V (Proc.devRef .tc r) :=
  after_of_writes_sub opsD _ opsD_writes h
/-- The contents after stage E. -/
def atE (V : Valuation τ sig (Elt F)) : Valuation τ sig (Elt F) := after opsE (atD V)
/-- Stage E keeps every buffer it does not write. -/
theorem atE_keep (V : Valuation τ sig (Elt F)) (r : Ref sig .tc) (h : r ∉ outsE) :
    atE V (Proc.devRef .tc r) = atD V (Proc.devRef .tc r) :=
  after_of_writes_sub opsE _ opsE_writes h
/-- The contents after stage G. -/
def atG (V : Valuation τ sig (Elt F)) : Valuation τ sig (Elt F) := after opsG (atE V)
/-- Stage G keeps every buffer it does not write. -/
theorem atG_keep (V : Valuation τ sig (Elt F)) (r : Ref sig .tc) (h : r ∉ outsG) :
    atG V (Proc.devRef .tc r) = atE V (Proc.devRef .tc r) :=
  after_of_writes_sub opsG _ opsG_writes h
/-- The contents after stage H. -/
def atH (V : Valuation τ sig (Elt F)) : Valuation τ sig (Elt F) := after opsH (atG V)
/-- Stage H keeps every buffer it does not write. -/
theorem atH_keep (V : Valuation τ sig (Elt F)) (r : Ref sig .tc) (h : r ∉ outsH) :
    atH V (Proc.devRef .tc r) = atG V (Proc.devRef .tc r) :=
  after_of_writes_sub opsH _ opsH_writes h
/-- The contents after stage I. -/
def atI (V : Valuation τ sig (Elt F)) : Valuation τ sig (Elt F) := after opsI (atH V)
/-- Stage I keeps every buffer it does not write. -/
theorem atI_keep (V : Valuation τ sig (Elt F)) (r : Ref sig .tc) (h : r ∉ outsI) :
    atI V (Proc.devRef .tc r) = atH V (Proc.devRef .tc r) :=
  after_of_writes_sub opsI _ opsI_writes h
/-- The contents after stage J. -/
def atJ (V : Valuation τ sig (Elt F)) : Valuation τ sig (Elt F) := after opsJ (atI V)
/-- Stage J keeps every buffer it does not write. -/
theorem atJ_keep (V : Valuation τ sig (Elt F)) (r : Ref sig .tc) (h : r ∉ outsJ) :
    atJ V (Proc.devRef .tc r) = atI V (Proc.devRef .tc r) :=
  after_of_writes_sub opsJ _ opsJ_writes h
/-- The contents after stage K. -/
def atK (V : Valuation τ sig (Elt F)) : Valuation τ sig (Elt F) := after opsK (atJ V)
/-- Stage K keeps every buffer it does not write. -/
theorem atK_keep (V : Valuation τ sig (Elt F)) (r : Ref sig .tc) (h : r ∉ outsK) :
    atK V (Proc.devRef .tc r) = atJ V (Proc.devRef .tc r) :=
  after_of_writes_sub opsK _ opsK_writes h
/-- The contents after stage L. -/
def atL (V : Valuation τ sig (Elt F)) : Valuation τ sig (Elt F) := after opsL (atK V)
/-- Stage L keeps every buffer it does not write. -/
theorem atL_keep (V : Valuation τ sig (Elt F)) (r : Ref sig .tc) (h : r ∉ outsL) :
    atL V (Proc.devRef .tc r) = atK V (Proc.devRef .tc r) :=
  after_of_writes_sub opsL _ opsL_writes h
/-- The contents after stage M. -/
def atM (V : Valuation τ sig (Elt F)) : Valuation τ sig (Elt F) := after opsM (atL V)
/-- Stage M keeps every buffer it does not write. -/
theorem atM_keep (V : Valuation τ sig (Elt F)) (r : Ref sig .tc) (h : r ∉ outsM) :
    atM V (Proc.devRef .tc r) = atL V (Proc.devRef .tc r) :=
  after_of_writes_sub opsM _ opsM_writes h

set_option maxRecDepth 8192 in
/-- Buffer `main_arg0` after the stages up to A. -/
theorem atA_main_arg0 (V : Valuation τ sig (Elt F)) : atA V (Proc.devRef .tc main_arg0) = (V (Proc.devRef .tc main_arg0)) := (atA_keep V _ (by decide)).trans (rfl)
set_option maxRecDepth 8192 in
/-- Buffer `main_arg1` after the stages up to A. -/
theorem atA_main_arg1 (V : Valuation τ sig (Elt F)) : atA V (Proc.devRef .tc main_arg1) = (V (Proc.devRef .tc main_arg1)) := (atA_keep V _ (by decide)).trans (rfl)
set_option maxRecDepth 8192 in
/-- Buffer `main_arg2` after the stages up to A. -/
theorem atA_main_arg2 (V : Valuation τ sig (Elt F)) : atA V (Proc.devRef .tc main_arg2) = (V (Proc.devRef .tc main_arg2)) := (atA_keep V _ (by decide)).trans (rfl)
set_option maxRecDepth 8192 in
/-- Buffer `main_arg3` after the stages up to A. -/
theorem atA_main_arg3 (V : Valuation τ sig (Elt F)) : atA V (Proc.devRef .tc main_arg3) = (V (Proc.devRef .tc main_arg3)) := (atA_keep V _ (by decide)).trans (rfl)
set_option maxRecDepth 8192 in
/-- Buffer `main_arg4` after the stages up to A. -/
theorem atA_main_arg4 (V : Valuation τ sig (Elt F)) : atA V (Proc.devRef .tc main_arg4) = (V (Proc.devRef .tc main_arg4)) := (atA_keep V _ (by decide)).trans (rfl)
set_option maxRecDepth 8192 in
/-- Buffer `main_v6` after the stages up to A. -/
theorem atA_main_v6 (V : Valuation τ sig (Elt F)) : atA V (Proc.devRef .tc main_v6) = (mkVal (V (Proc.devRef .tc main_arg1))) := by
  refine (opsA_main_v6 _).trans ?_
  rfl
set_option maxRecDepth 8192 in
/-- Buffer `main_arg0` after the stages up to B. -/
theorem atB_main_arg0 (V : Valuation τ sig (Elt F)) : atB V (Proc.devRef .tc main_arg0) = (V (Proc.devRef .tc main_arg0)) := (atB_keep V _ (by decide)).trans (atA_main_arg0 V)
set_option maxRecDepth 8192 in
/-- Buffer `main_arg1` after the stages up to B. -/
theorem atB_main_arg1 (V : Valuation τ sig (Elt F)) : atB V (Proc.devRef .tc main_arg1) = (V (Proc.devRef .tc main_arg1)) := (atB_keep V _ (by decide)).trans (atA_main_arg1 V)
set_option maxRecDepth 8192 in
/-- Buffer `main_arg2` after the stages up to B. -/
theorem atB_main_arg2 (V : Valuation τ sig (Elt F)) : atB V (Proc.devRef .tc main_arg2) = (V (Proc.devRef .tc main_arg2)) := (atB_keep V _ (by decide)).trans (atA_main_arg2 V)
set_option maxRecDepth 8192 in
/-- Buffer `main_arg3` after the stages up to B. -/
theorem atB_main_arg3 (V : Valuation τ sig (Elt F)) : atB V (Proc.devRef .tc main_arg3) = (V (Proc.devRef .tc main_arg3)) := (atB_keep V _ (by decide)).trans (atA_main_arg3 V)
set_option maxRecDepth 8192 in
/-- Buffer `main_arg4` after the stages up to B. -/
theorem atB_main_arg4 (V : Valuation τ sig (Elt F)) : atB V (Proc.devRef .tc main_arg4) = (V (Proc.devRef .tc main_arg4)) := (atB_keep V _ (by decide)).trans (atA_main_arg4 V)
set_option maxRecDepth 8192 in
/-- Buffer `main_v9` after the stages up to B. -/
theorem atB_main_v9 (V : Valuation τ sig (Elt F)) : atB V (Proc.devRef .tc main_v9) = relPos (F := F) := by
  refine (opsB_main_v9 _).trans ?_
  rfl
set_option maxRecDepth 8192 in
/-- Buffer `main_v15` after the stages up to B. -/
theorem atB_main_v15 (V : Valuation τ sig (Elt F)) : atB V (Proc.devRef .tc main_v15) = (scaleVal (V (Proc.devRef .tc main_arg1))) := by
  refine (opsB_main_v15 _).trans ?_
  rw [atA_main_v6]
  rfl
set_option maxRecDepth 8192 in
/-- Buffer `main_arg0` after the stages up to C. -/
theorem atC_main_arg0 (V : Valuation τ sig (Elt F)) : atC V (Proc.devRef .tc main_arg0) = (V (Proc.devRef .tc main_arg0)) := (atC_keep V _ (by decide)).trans (atB_main_arg0 V)
set_option maxRecDepth 8192 in
/-- Buffer `main_arg1` after the stages up to C. -/
theorem atC_main_arg1 (V : Valuation τ sig (Elt F)) : atC V (Proc.devRef .tc main_arg1) = (V (Proc.devRef .tc main_arg1)) := (atC_keep V _ (by decide)).trans (atB_main_arg1 V)
set_option maxRecDepth 8192 in
/-- Buffer `main_arg2` after the stages up to C. -/
theorem atC_main_arg2 (V : Valuation τ sig (Elt F)) : atC V (Proc.devRef .tc main_arg2) = (V (Proc.devRef .tc main_arg2)) := (atC_keep V _ (by decide)).trans (atB_main_arg2 V)
set_option maxRecDepth 8192 in
/-- Buffer `main_arg3` after the stages up to C. -/
theorem atC_main_arg3 (V : Valuation τ sig (Elt F)) : atC V (Proc.devRef .tc main_arg3) = (V (Proc.devRef .tc main_arg3)) := (atC_keep V _ (by decide)).trans (atB_main_arg3 V)
set_option maxRecDepth 8192 in
/-- Buffer `main_arg4` after the stages up to C. -/
theorem atC_main_arg4 (V : Valuation τ sig (Elt F)) : atC V (Proc.devRef .tc main_arg4) = (V (Proc.devRef .tc main_arg4)) := (atC_keep V _ (by decide)).trans (atB_main_arg4 V)
set_option maxRecDepth 8192 in
/-- Buffer `main_v15` after the stages up to C. -/
theorem atC_main_v15 (V : Valuation τ sig (Elt F)) : atC V (Proc.devRef .tc main_v15) = (scaleVal (V (Proc.devRef .tc main_arg1))) := (atC_keep V _ (by decide)).trans (atB_main_v15 V)
set_option maxRecDepth 8192 in
/-- Buffer `main_v21` after the stages up to C. -/
theorem atC_main_v21 (V : Valuation τ sig (Elt F)) : atC V (Proc.devRef .tc main_v21) = (ptVal (F := F)) := by
  refine (opsC_main_v21 _).trans ?_
  rw [atB_main_v9]
  rfl
set_option maxRecDepth 8192 in
/-- Buffer `main_arg0` after the stages up to D. -/
theorem atD_main_arg0 (V : Valuation τ sig (Elt F)) : atD V (Proc.devRef .tc main_arg0) = (V (Proc.devRef .tc main_arg0)) := (atD_keep V _ (by decide)).trans (atC_main_arg0 V)
set_option maxRecDepth 8192 in
/-- Buffer `main_arg1` after the stages up to D. -/
theorem atD_main_arg1 (V : Valuation τ sig (Elt F)) : atD V (Proc.devRef .tc main_arg1) = (V (Proc.devRef .tc main_arg1)) := (atD_keep V _ (by decide)).trans (atC_main_arg1 V)
set_option maxRecDepth 8192 in
/-- Buffer `main_arg2` after the stages up to D. -/
theorem atD_main_arg2 (V : Valuation τ sig (Elt F)) : atD V (Proc.devRef .tc main_arg2) = (V (Proc.devRef .tc main_arg2)) := (atD_keep V _ (by decide)).trans (atC_main_arg2 V)
set_option maxRecDepth 8192 in
/-- Buffer `main_arg3` after the stages up to D. -/
theorem atD_main_arg3 (V : Valuation τ sig (Elt F)) : atD V (Proc.devRef .tc main_arg3) = (V (Proc.devRef .tc main_arg3)) := (atD_keep V _ (by decide)).trans (atC_main_arg3 V)
set_option maxRecDepth 8192 in
/-- Buffer `main_arg4` after the stages up to D. -/
theorem atD_main_arg4 (V : Valuation τ sig (Elt F)) : atD V (Proc.devRef .tc main_arg4) = (V (Proc.devRef .tc main_arg4)) := (atD_keep V _ (by decide)).trans (atC_main_arg4 V)
set_option maxRecDepth 8192 in
/-- Buffer `main_v15` after the stages up to D. -/
theorem atD_main_v15 (V : Valuation τ sig (Elt F)) : atD V (Proc.devRef .tc main_v15) = (scaleVal (V (Proc.devRef .tc main_arg1))) := (atD_keep V _ (by decide)).trans (atC_main_v15 V)
set_option maxRecDepth 8192 in
/-- Buffer `main_v21` after the stages up to D. -/
theorem atD_main_v21 (V : Valuation τ sig (Elt F)) : atD V (Proc.devRef .tc main_v21) = (ptVal (F := F)) := (atD_keep V _ (by decide)).trans (atC_main_v21 V)
set_option maxRecDepth 8192 in
/-- Buffer `main_v24` after the stages up to D. -/
theorem atD_main_v24 (V : Valuation τ sig (Elt F)) : atD V (Proc.devRef .tc main_v24) = (stdVal (V (Proc.devRef .tc main_arg4))) := by
  refine (opsD_main_v24 _).trans ?_
  rw [atC_main_arg4]
  rfl
set_option maxRecDepth 8192 in
/-- Buffer `main_v30` after the stages up to D. -/
theorem atD_main_v30 (V : Valuation τ sig (Elt F)) : atD V (Proc.devRef .tc main_v30) = (wVal (V (Proc.devRef .tc main_arg0)) (V (Proc.devRef .tc main_arg3)) (V (Proc.devRef .tc main_arg4))) := by
  refine (opsD_main_v30 _).trans ?_
  rw [atC_main_arg4, atC_main_arg3, atC_main_arg0]
  rfl
set_option maxRecDepth 8192 in
/-- Buffer `main_arg0` after the stages up to E. -/
theorem atE_main_arg0 (V : Valuation τ sig (Elt F)) : atE V (Proc.devRef .tc main_arg0) = (V (Proc.devRef .tc main_arg0)) := (atE_keep V _ (by decide)).trans (atD_main_arg0 V)
set_option maxRecDepth 8192 in
/-- Buffer `main_arg1` after the stages up to E. -/
theorem atE_main_arg1 (V : Valuation τ sig (Elt F)) : atE V (Proc.devRef .tc main_arg1) = (V (Proc.devRef .tc main_arg1)) := (atE_keep V _ (by decide)).trans (atD_main_arg1 V)
set_option maxRecDepth 8192 in
/-- Buffer `main_arg2` after the stages up to E. -/
theorem atE_main_arg2 (V : Valuation τ sig (Elt F)) : atE V (Proc.devRef .tc main_arg2) = (V (Proc.devRef .tc main_arg2)) := (atE_keep V _ (by decide)).trans (atD_main_arg2 V)
set_option maxRecDepth 8192 in
/-- Buffer `main_arg3` after the stages up to E. -/
theorem atE_main_arg3 (V : Valuation τ sig (Elt F)) : atE V (Proc.devRef .tc main_arg3) = (V (Proc.devRef .tc main_arg3)) := (atE_keep V _ (by decide)).trans (atD_main_arg3 V)
set_option maxRecDepth 8192 in
/-- Buffer `main_arg4` after the stages up to E. -/
theorem atE_main_arg4 (V : Valuation τ sig (Elt F)) : atE V (Proc.devRef .tc main_arg4) = (V (Proc.devRef .tc main_arg4)) := (atE_keep V _ (by decide)).trans (atD_main_arg4 V)
set_option maxRecDepth 8192 in
/-- Buffer `main_v15` after the stages up to E. -/
theorem atE_main_v15 (V : Valuation τ sig (Elt F)) : atE V (Proc.devRef .tc main_v15) = (scaleVal (V (Proc.devRef .tc main_arg1))) := (atE_keep V _ (by decide)).trans (atD_main_v15 V)
set_option maxRecDepth 8192 in
/-- Buffer `main_v21` after the stages up to E. -/
theorem atE_main_v21 (V : Valuation τ sig (Elt F)) : atE V (Proc.devRef .tc main_v21) = (ptVal (F := F)) := (atE_keep V _ (by decide)).trans (atD_main_v21 V)
set_option maxRecDepth 8192 in
/-- Buffer `main_v24` after the stages up to E. -/
theorem atE_main_v24 (V : Valuation τ sig (Elt F)) : atE V (Proc.devRef .tc main_v24) = (stdVal (V (Proc.devRef .tc main_arg4))) := (atE_keep V _ (by decide)).trans (atD_main_v24 V)
set_option maxRecDepth 8192 in
/-- Buffer `main_v35` after the stages up to E. -/
theorem atE_main_v35 (V : Valuation τ sig (Elt F)) : atE V (Proc.devRef .tc main_v35) = (hVal (V (Proc.devRef .tc main_arg0)) (V (Proc.devRef .tc main_arg3)) (V (Proc.devRef .tc main_arg4))) := by
  refine (opsE_main_v35 _).trans ?_
  rw [atD_main_v30]
  rfl
set_option maxRecDepth 8192 in
/-- Buffer `main_arg0` after the stages up to G. -/
theorem atG_main_arg0 (V : Valuation τ sig (Elt F)) : atG V (Proc.devRef .tc main_arg0) = (V (Proc.devRef .tc main_arg0)) := (atG_keep V _ (by decide)).trans (atE_main_arg0 V)
set_option maxRecDepth 8192 in
/-- Buffer `main_arg1` after the stages up to G. -/
theorem atG_main_arg1 (V : Valuation τ sig (Elt F)) : atG V (Proc.devRef .tc main_arg1) = (V (Proc.devRef .tc main_arg1)) := (atG_keep V _ (by decide)).trans (atE_main_arg1 V)
set_option maxRecDepth 8192 in
/-- Buffer `main_arg2` after the stages up to G. -/
theorem atG_main_arg2 (V : Valuation τ sig (Elt F)) : atG V (Proc.devRef .tc main_arg2) = (V (Proc.devRef .tc main_arg2)) := (atG_keep V _ (by decide)).trans (atE_main_arg2 V)
set_option maxRecDepth 8192 in
/-- Buffer `main_arg3` after the stages up to G. -/
theorem atG_main_arg3 (V : Valuation τ sig (Elt F)) : atG V (Proc.devRef .tc main_arg3) = (V (Proc.devRef .tc main_arg3)) := (atG_keep V _ (by decide)).trans (atE_main_arg3 V)
set_option maxRecDepth 8192 in
/-- Buffer `main_arg4` after the stages up to G. -/
theorem atG_main_arg4 (V : Valuation τ sig (Elt F)) : atG V (Proc.devRef .tc main_arg4) = (V (Proc.devRef .tc main_arg4)) := (atG_keep V _ (by decide)).trans (atE_main_arg4 V)
set_option maxRecDepth 8192 in
/-- Buffer `main_v15` after the stages up to G. -/
theorem atG_main_v15 (V : Valuation τ sig (Elt F)) : atG V (Proc.devRef .tc main_v15) = (scaleVal (V (Proc.devRef .tc main_arg1))) := (atG_keep V _ (by decide)).trans (atE_main_v15 V)
set_option maxRecDepth 8192 in
/-- Buffer `main_v21` after the stages up to G. -/
theorem atG_main_v21 (V : Valuation τ sig (Elt F)) : atG V (Proc.devRef .tc main_v21) = (ptVal (F := F)) := (atG_keep V _ (by decide)).trans (atE_main_v21 V)
set_option maxRecDepth 8192 in
/-- Buffer `main_v24` after the stages up to G. -/
theorem atG_main_v24 (V : Valuation τ sig (Elt F)) : atG V (Proc.devRef .tc main_v24) = (stdVal (V (Proc.devRef .tc main_arg4))) := (atG_keep V _ (by decide)).trans (atE_main_v24 V)
set_option maxRecDepth 8192 in
/-- Buffer `main_v35` after the stages up to G. -/
theorem atG_main_v35 (V : Valuation τ sig (Elt F)) : atG V (Proc.devRef .tc main_v35) = (hVal (V (Proc.devRef .tc main_arg0)) (V (Proc.devRef .tc main_arg3)) (V (Proc.devRef .tc main_arg4))) := (atG_keep V _ (by decide)).trans (atE_main_v35 V)
set_option maxRecDepth 8192 in
/-- Buffer `main_v40` after the stages up to G. -/
theorem atG_main_v40 (V : Valuation τ sig (Elt F)) : atG V (Proc.devRef .tc main_v40) = (nVal (V (Proc.devRef .tc main_arg2))) := by
  refine (opsG_main_v40 _).trans ?_
  rw [atE_main_arg2]
  rfl
set_option maxRecDepth 8192 in
/-- Buffer `main_arg0` after the stages up to H. -/
theorem atH_main_arg0 (V : Valuation τ sig (Elt F)) : atH V (Proc.devRef .tc main_arg0) = (V (Proc.devRef .tc main_arg0)) := (atH_keep V _ (by decide)).trans (atG_main_arg0 V)
set_option maxRecDepth 8192 in
/-- Buffer `main_arg1` after the stages up to H. -/
theorem atH_main_arg1 (V : Valuation τ sig (Elt F)) : atH V (Proc.devRef .tc main_arg1) = (V (Proc.devRef .tc main_arg1)) := (atH_keep V _ (by decide)).trans (atG_main_arg1 V)
set_option maxRecDepth 8192 in
/-- Buffer `main_arg2` after the stages up to H. -/
theorem atH_main_arg2 (V : Valuation τ sig (Elt F)) : atH V (Proc.devRef .tc main_arg2) = (V (Proc.devRef .tc main_arg2)) := (atH_keep V _ (by decide)).trans (atG_main_arg2 V)
set_option maxRecDepth 8192 in
/-- Buffer `main_arg3` after the stages up to H. -/
theorem atH_main_arg3 (V : Valuation τ sig (Elt F)) : atH V (Proc.devRef .tc main_arg3) = (V (Proc.devRef .tc main_arg3)) := (atH_keep V _ (by decide)).trans (atG_main_arg3 V)
set_option maxRecDepth 8192 in
/-- Buffer `main_arg4` after the stages up to H. -/
theorem atH_main_arg4 (V : Valuation τ sig (Elt F)) : atH V (Proc.devRef .tc main_arg4) = (V (Proc.devRef .tc main_arg4)) := (atH_keep V _ (by decide)).trans (atG_main_arg4 V)
set_option maxRecDepth 8192 in
/-- Buffer `main_v15` after the stages up to H. -/
theorem atH_main_v15 (V : Valuation τ sig (Elt F)) : atH V (Proc.devRef .tc main_v15) = (scaleVal (V (Proc.devRef .tc main_arg1))) := (atH_keep V _ (by decide)).trans (atG_main_v15 V)
set_option maxRecDepth 8192 in
/-- Buffer `main_v21` after the stages up to H. -/
theorem atH_main_v21 (V : Valuation τ sig (Elt F)) : atH V (Proc.devRef .tc main_v21) = (ptVal (F := F)) := (atH_keep V _ (by decide)).trans (atG_main_v21 V)
set_option maxRecDepth 8192 in
/-- Buffer `main_v24` after the stages up to H. -/
theorem atH_main_v24 (V : Valuation τ sig (Elt F)) : atH V (Proc.devRef .tc main_v24) = (stdVal (V (Proc.devRef .tc main_arg4))) := (atH_keep V _ (by decide)).trans (atG_main_v24 V)
set_option maxRecDepth 8192 in
/-- Buffer `main_v35` after the stages up to H. -/
theorem atH_main_v35 (V : Valuation τ sig (Elt F)) : atH V (Proc.devRef .tc main_v35) = (hVal (V (Proc.devRef .tc main_arg0)) (V (Proc.devRef .tc main_arg3)) (V (Proc.devRef .tc main_arg4))) := (atH_keep V _ (by decide)).trans (atG_main_v35 V)
set_option maxRecDepth 8192 in
/-- Buffer `main_v40` after the stages up to H. -/
theorem atH_main_v40 (V : Valuation τ sig (Elt F)) : atH V (Proc.devRef .tc main_v40) = (nVal (V (Proc.devRef .tc main_arg2))) := (atH_keep V _ (by decide)).trans (atG_main_v40 V)
set_option maxRecDepth 8192 in
/-- Buffer `main_v42` after the stages up to H. -/
theorem atH_main_v42 (V : Valuation τ sig (Elt F)) : atH V (Proc.devRef .tc main_v42) = (allVal (V (Proc.devRef .tc main_arg0)) (V (Proc.devRef .tc main_arg2)) (V (Proc.devRef .tc main_arg3)) (V (Proc.devRef .tc main_arg4))) := by
  refine (opsH_main_v42 _).trans ?_
  rw [atG_main_v40, atG_main_v35]
  rfl
set_option maxRecDepth 8192 in
/-- Buffer `main_arg0` after the stages up to I. -/
theorem atI_main_arg0 (V : Valuation τ sig (Elt F)) : atI V (Proc.devRef .tc main_arg0) = (V (Proc.devRef .tc main_arg0)) := (atI_keep V _ (by decide)).trans (atH_main_arg0 V)
set_option maxRecDepth 8192 in
/-- Buffer `main_arg1` after the stages up to I. -/
theorem atI_main_arg1 (V : Valuation τ sig (Elt F)) : atI V (Proc.devRef .tc main_arg1) = (V (Proc.devRef .tc main_arg1)) := (atI_keep V _ (by decide)).trans (atH_main_arg1 V)
set_option maxRecDepth 8192 in
/-- Buffer `main_arg2` after the stages up to I. -/
theorem atI_main_arg2 (V : Valuation τ sig (Elt F)) : atI V (Proc.devRef .tc main_arg2) = (V (Proc.devRef .tc main_arg2)) := (atI_keep V _ (by decide)).trans (atH_main_arg2 V)
set_option maxRecDepth 8192 in
/-- Buffer `main_arg3` after the stages up to I. -/
theorem atI_main_arg3 (V : Valuation τ sig (Elt F)) : atI V (Proc.devRef .tc main_arg3) = (V (Proc.devRef .tc main_arg3)) := (atI_keep V _ (by decide)).trans (atH_main_arg3 V)
set_option maxRecDepth 8192 in
/-- Buffer `main_arg4` after the stages up to I. -/
theorem atI_main_arg4 (V : Valuation τ sig (Elt F)) : atI V (Proc.devRef .tc main_arg4) = (V (Proc.devRef .tc main_arg4)) := (atI_keep V _ (by decide)).trans (atH_main_arg4 V)
set_option maxRecDepth 8192 in
/-- Buffer `main_v15` after the stages up to I. -/
theorem atI_main_v15 (V : Valuation τ sig (Elt F)) : atI V (Proc.devRef .tc main_v15) = (scaleVal (V (Proc.devRef .tc main_arg1))) := (atI_keep V _ (by decide)).trans (atH_main_v15 V)
set_option maxRecDepth 8192 in
/-- Buffer `main_v21` after the stages up to I. -/
theorem atI_main_v21 (V : Valuation τ sig (Elt F)) : atI V (Proc.devRef .tc main_v21) = (ptVal (F := F)) := (atI_keep V _ (by decide)).trans (atH_main_v21 V)
set_option maxRecDepth 8192 in
/-- Buffer `main_v24` after the stages up to I. -/
theorem atI_main_v24 (V : Valuation τ sig (Elt F)) : atI V (Proc.devRef .tc main_v24) = (stdVal (V (Proc.devRef .tc main_arg4))) := (atI_keep V _ (by decide)).trans (atH_main_v24 V)
set_option maxRecDepth 8192 in
/-- Buffer `main_v35` after the stages up to I. -/
theorem atI_main_v35 (V : Valuation τ sig (Elt F)) : atI V (Proc.devRef .tc main_v35) = (hVal (V (Proc.devRef .tc main_arg0)) (V (Proc.devRef .tc main_arg3)) (V (Proc.devRef .tc main_arg4))) := (atI_keep V _ (by decide)).trans (atH_main_v35 V)
set_option maxRecDepth 8192 in
/-- Buffer `main_v40` after the stages up to I. -/
theorem atI_main_v40 (V : Valuation τ sig (Elt F)) : atI V (Proc.devRef .tc main_v40) = (nVal (V (Proc.devRef .tc main_arg2))) := (atI_keep V _ (by decide)).trans (atH_main_v40 V)
set_option maxRecDepth 8192 in
/-- Buffer `main_v46` after the stages up to I. -/
theorem atI_main_v46 (V : Valuation τ sig (Elt F)) : atI V (Proc.devRef .tc main_v46) = (simsVal (V (Proc.devRef .tc main_arg0)) (V (Proc.devRef .tc main_arg2)) (V (Proc.devRef .tc main_arg3)) (V (Proc.devRef .tc main_arg4))) := by
  refine (opsI_main_v46 _).trans ?_
  rw [atH_main_v21, atH_main_v42]
  rfl
set_option maxRecDepth 8192 in
/-- Buffer `main_arg0` after the stages up to J. -/
theorem atJ_main_arg0 (V : Valuation τ sig (Elt F)) : atJ V (Proc.devRef .tc main_arg0) = (V (Proc.devRef .tc main_arg0)) := (atJ_keep V _ (by decide)).trans (atI_main_arg0 V)
set_option maxRecDepth 8192 in
/-- Buffer `main_arg1` after the stages up to J. -/
theorem atJ_main_arg1 (V : Valuation τ sig (Elt F)) : atJ V (Proc.devRef .tc main_arg1) = (V (Proc.devRef .tc main_arg1)) := (atJ_keep V _ (by decide)).trans (atI_main_arg1 V)
set_option maxRecDepth 8192 in
/-- Buffer `main_arg2` after the stages up to J. -/
theorem atJ_main_arg2 (V : Valuation τ sig (Elt F)) : atJ V (Proc.devRef .tc main_arg2) = (V (Proc.devRef .tc main_arg2)) := (atJ_keep V _ (by decide)).trans (atI_main_arg2 V)
set_option maxRecDepth 8192 in
/-- Buffer `main_arg3` after the stages up to J. -/
theorem atJ_main_arg3 (V : Valuation τ sig (Elt F)) : atJ V (Proc.devRef .tc main_arg3) = (V (Proc.devRef .tc main_arg3)) := (atJ_keep V _ (by decide)).trans (atI_main_arg3 V)
set_option maxRecDepth 8192 in
/-- Buffer `main_arg4` after the stages up to J. -/
theorem atJ_main_arg4 (V : Valuation τ sig (Elt F)) : atJ V (Proc.devRef .tc main_arg4) = (V (Proc.devRef .tc main_arg4)) := (atJ_keep V _ (by decide)).trans (atI_main_arg4 V)
set_option maxRecDepth 8192 in
/-- Buffer `main_v15` after the stages up to J. -/
theorem atJ_main_v15 (V : Valuation τ sig (Elt F)) : atJ V (Proc.devRef .tc main_v15) = (scaleVal (V (Proc.devRef .tc main_arg1))) := (atJ_keep V _ (by decide)).trans (atI_main_v15 V)
set_option maxRecDepth 8192 in
/-- Buffer `main_v21` after the stages up to J. -/
theorem atJ_main_v21 (V : Valuation τ sig (Elt F)) : atJ V (Proc.devRef .tc main_v21) = (ptVal (F := F)) := (atJ_keep V _ (by decide)).trans (atI_main_v21 V)
set_option maxRecDepth 8192 in
/-- Buffer `main_v24` after the stages up to J. -/
theorem atJ_main_v24 (V : Valuation τ sig (Elt F)) : atJ V (Proc.devRef .tc main_v24) = (stdVal (V (Proc.devRef .tc main_arg4))) := (atJ_keep V _ (by decide)).trans (atI_main_v24 V)
set_option maxRecDepth 8192 in
/-- Buffer `main_v35` after the stages up to J. -/
theorem atJ_main_v35 (V : Valuation τ sig (Elt F)) : atJ V (Proc.devRef .tc main_v35) = (hVal (V (Proc.devRef .tc main_arg0)) (V (Proc.devRef .tc main_arg3)) (V (Proc.devRef .tc main_arg4))) := (atJ_keep V _ (by decide)).trans (atI_main_v35 V)
set_option maxRecDepth 8192 in
/-- Buffer `main_v40` after the stages up to J. -/
theorem atJ_main_v40 (V : Valuation τ sig (Elt F)) : atJ V (Proc.devRef .tc main_v40) = (nVal (V (Proc.devRef .tc main_arg2))) := (atJ_keep V _ (by decide)).trans (atI_main_v40 V)
set_option maxRecDepth 8192 in
/-- Buffer `main_v47` after the stages up to J. -/
theorem atJ_main_v47 (V : Valuation τ sig (Elt F)) : atJ V (Proc.devRef .tc main_v47) = (idxVal (V (Proc.devRef .tc main_arg0)) (V (Proc.devRef .tc main_arg2)) (V (Proc.devRef .tc main_arg3)) (V (Proc.devRef .tc main_arg4))) := by
  refine (opsJ_main_v47 _).trans ?_
  rw [atI_main_v46]
  rfl
set_option maxRecDepth 8192 in
/-- Buffer `main_arg0` after the stages up to K. -/
theorem atK_main_arg0 (V : Valuation τ sig (Elt F)) : atK V (Proc.devRef .tc main_arg0) = (V (Proc.devRef .tc main_arg0)) := (atK_keep V _ (by decide)).trans (atJ_main_arg0 V)
set_option maxRecDepth 8192 in
/-- Buffer `main_arg1` after the stages up to K. -/
theorem atK_main_arg1 (V : Valuation τ sig (Elt F)) : atK V (Proc.devRef .tc main_arg1) = (V (Proc.devRef .tc main_arg1)) := (atK_keep V _ (by decide)).trans (atJ_main_arg1 V)
set_option maxRecDepth 8192 in
/-- Buffer `main_arg2` after the stages up to K. -/
theorem atK_main_arg2 (V : Valuation τ sig (Elt F)) : atK V (Proc.devRef .tc main_arg2) = (V (Proc.devRef .tc main_arg2)) := (atK_keep V _ (by decide)).trans (atJ_main_arg2 V)
set_option maxRecDepth 8192 in
/-- Buffer `main_arg3` after the stages up to K. -/
theorem atK_main_arg3 (V : Valuation τ sig (Elt F)) : atK V (Proc.devRef .tc main_arg3) = (V (Proc.devRef .tc main_arg3)) := (atK_keep V _ (by decide)).trans (atJ_main_arg3 V)
set_option maxRecDepth 8192 in
/-- Buffer `main_arg4` after the stages up to K. -/
theorem atK_main_arg4 (V : Valuation τ sig (Elt F)) : atK V (Proc.devRef .tc main_arg4) = (V (Proc.devRef .tc main_arg4)) := (atK_keep V _ (by decide)).trans (atJ_main_arg4 V)
set_option maxRecDepth 8192 in
/-- Buffer `main_v15` after the stages up to K. -/
theorem atK_main_v15 (V : Valuation τ sig (Elt F)) : atK V (Proc.devRef .tc main_v15) = (scaleVal (V (Proc.devRef .tc main_arg1))) := (atK_keep V _ (by decide)).trans (atJ_main_v15 V)
set_option maxRecDepth 8192 in
/-- Buffer `main_v24` after the stages up to K. -/
theorem atK_main_v24 (V : Valuation τ sig (Elt F)) : atK V (Proc.devRef .tc main_v24) = (stdVal (V (Proc.devRef .tc main_arg4))) := (atK_keep V _ (by decide)).trans (atJ_main_v24 V)
set_option maxRecDepth 8192 in
/-- Buffer `main_v35` after the stages up to K. -/
theorem atK_main_v35 (V : Valuation τ sig (Elt F)) : atK V (Proc.devRef .tc main_v35) = (hVal (V (Proc.devRef .tc main_arg0)) (V (Proc.devRef .tc main_arg3)) (V (Proc.devRef .tc main_arg4))) := (atK_keep V _ (by decide)).trans (atJ_main_v35 V)
set_option maxRecDepth 8192 in
/-- Buffer `main_v63` after the stages up to K. -/
theorem atK_main_v63 (V : Valuation τ sig (Elt F)) : atK V (Proc.devRef .tc main_v63) = (selVal (V (Proc.devRef .tc main_arg0)) (V (Proc.devRef .tc main_arg2)) (V (Proc.devRef .tc main_arg3)) (V (Proc.devRef .tc main_arg4))) := by
  refine (opsK_main_v63 _).trans ?_
  rw [atJ_main_v21, atJ_main_v47, atJ_main_v40]
  rfl
set_option maxRecDepth 8192 in
/-- Buffer `main_arg0` after the stages up to L. -/
theorem atL_main_arg0 (V : Valuation τ sig (Elt F)) : atL V (Proc.devRef .tc main_arg0) = (V (Proc.devRef .tc main_arg0)) := (atL_keep V _ (by decide)).trans (atK_main_arg0 V)
set_option maxRecDepth 8192 in
/-- Buffer `main_arg1` after the stages up to L. -/
theorem atL_main_arg1 (V : Valuation τ sig (Elt F)) : atL V (Proc.devRef .tc main_arg1) = (V (Proc.devRef .tc main_arg1)) := (atL_keep V _ (by decide)).trans (atK_main_arg1 V)
set_option maxRecDepth 8192 in
/-- Buffer `main_arg2` after the stages up to L. -/
theorem atL_main_arg2 (V : Valuation τ sig (Elt F)) : atL V (Proc.devRef .tc main_arg2) = (V (Proc.devRef .tc main_arg2)) := (atL_keep V _ (by decide)).trans (atK_main_arg2 V)
set_option maxRecDepth 8192 in
/-- Buffer `main_arg3` after the stages up to L. -/
theorem atL_main_arg3 (V : Valuation τ sig (Elt F)) : atL V (Proc.devRef .tc main_arg3) = (V (Proc.devRef .tc main_arg3)) := (atL_keep V _ (by decide)).trans (atK_main_arg3 V)
set_option maxRecDepth 8192 in
/-- Buffer `main_arg4` after the stages up to L. -/
theorem atL_main_arg4 (V : Valuation τ sig (Elt F)) : atL V (Proc.devRef .tc main_arg4) = (V (Proc.devRef .tc main_arg4)) := (atL_keep V _ (by decide)).trans (atK_main_arg4 V)
set_option maxRecDepth 8192 in
/-- Buffer `main_v24` after the stages up to L. -/
theorem atL_main_v24 (V : Valuation τ sig (Elt F)) : atL V (Proc.devRef .tc main_v24) = (stdVal (V (Proc.devRef .tc main_arg4))) := (atL_keep V _ (by decide)).trans (atK_main_v24 V)
set_option maxRecDepth 8192 in
/-- Buffer `main_v69` after the stages up to L. -/
theorem atL_main_v69 (V : Valuation τ sig (Elt F)) : atL V (Proc.devRef .tc main_v69) = (dVal (V (Proc.devRef .tc main_arg0)) (V (Proc.devRef .tc main_arg1)) (V (Proc.devRef .tc main_arg2)) (V (Proc.devRef .tc main_arg3)) (V (Proc.devRef .tc main_arg4))) := by
  refine (opsL_main_v69 _).trans ?_
  rw [atK_main_v15, atK_main_v63, atK_main_v35]
  rfl
set_option maxRecDepth 8192 in
/-- Buffer `main_arg0` after the stages up to M. -/
theorem atM_main_arg0 (V : Valuation τ sig (Elt F)) : atM V (Proc.devRef .tc main_arg0) = (V (Proc.devRef .tc main_arg0)) := (atM_keep V _ (by decide)).trans (atL_main_arg0 V)
set_option maxRecDepth 8192 in
/-- Buffer `main_arg1` after the stages up to M. -/
theorem atM_main_arg1 (V : Valuation τ sig (Elt F)) : atM V (Proc.devRef .tc main_arg1) = (V (Proc.devRef .tc main_arg1)) := (atM_keep V _ (by decide)).trans (atL_main_arg1 V)
set_option maxRecDepth 8192 in
/-- Buffer `main_arg2` after the stages up to M. -/
theorem atM_main_arg2 (V : Valuation τ sig (Elt F)) : atM V (Proc.devRef .tc main_arg2) = (V (Proc.devRef .tc main_arg2)) := (atM_keep V _ (by decide)).trans (atL_main_arg2 V)
set_option maxRecDepth 8192 in
/-- Buffer `main_arg3` after the stages up to M. -/
theorem atM_main_arg3 (V : Valuation τ sig (Elt F)) : atM V (Proc.devRef .tc main_arg3) = (V (Proc.devRef .tc main_arg3)) := (atM_keep V _ (by decide)).trans (atL_main_arg3 V)
set_option maxRecDepth 8192 in
/-- Buffer `main_arg4` after the stages up to M. -/
theorem atM_main_arg4 (V : Valuation τ sig (Elt F)) : atM V (Proc.devRef .tc main_arg4) = (V (Proc.devRef .tc main_arg4)) := (atM_keep V _ (by decide)).trans (atL_main_arg4 V)
set_option maxRecDepth 8192 in
/-- Buffer `main_v83` after the stages up to M. -/
theorem atM_main_v83 (V : Valuation τ sig (Elt F)) : atM V (Proc.devRef .tc main_v83) = (resVal (V (Proc.devRef .tc main_arg0)) (V (Proc.devRef .tc main_arg1)) (V (Proc.devRef .tc main_arg2)) (V (Proc.devRef .tc main_arg3)) (V (Proc.devRef .tc main_arg4))) := by
  refine (opsM_main_v83 _).trans ?_
  rw [atL_main_v69, atL_main_v24, atL_main_arg0]
  rfl

/-- The stages in turn are the whole program. -/
theorem after_ops (V : Valuation τ sig (Elt F)) : after ops V = atM V := by
  simp only [ops, after_append]
  rfl

set_option maxRecDepth 8192 in
/-- Every run of the reference ends with its result buffer at `resVal` of the arguments, the arguments unchanged and
    every counter at zero. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v83)
          = resVal (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v83).trans ((congrFun (after_ops (launchContents m c)) (Proc.devRef .tc main_v83)).trans (atM_main_v83 (launchContents m c))),
      (h c main_arg0).trans ((congrFun (after_ops (launchContents m c)) (Proc.devRef .tc main_arg0)).trans (atM_main_arg0 (launchContents m c))),
      (h c main_arg1).trans ((congrFun (after_ops (launchContents m c)) (Proc.devRef .tc main_arg1)).trans (atM_main_arg1 (launchContents m c))),
      (h c main_arg2).trans ((congrFun (after_ops (launchContents m c)) (Proc.devRef .tc main_arg2)).trans (atM_main_arg2 (launchContents m c))),
      (h c main_arg3).trans ((congrFun (after_ops (launchContents m c)) (Proc.devRef .tc main_arg3)).trans (atM_main_arg3 (launchContents m c))),
      (h c main_arg4).trans ((congrFun (after_ops (launchContents m c)) (Proc.devRef .tc main_arg4)).trans (atM_main_arg4 (launchContents m c)))⟩)
    (run_seq scopedRefs_eq scopedSems_eq defs main (fun _ => ops) main_eq (fun _ => ops_sub) m ρ fun _ => ops_fresh)

end Cert.ReferenceIdeal.Run

end
-- ==== Proof.Frames.lean ====
/-
The frame claims — each program runs, leaves its arguments as they were and every counter at zero — and the rewrite of
the kernel's one named constant.
-/
module

public import proofs.«01_k».proof.Defs
public import proofs.«01_k».proof.Proof.Gen.Kernel.Frame
public import proofs.«01_k».proof.Proof.Gen.KernelIdeal.Frame
public import proofs.«01_k».proof.Proof.RefRun
public import proofs.«01_k».proof.Proof.Gen.Pre_general_position
public import Idealize.ShloMosaic.Adequacy
public import Idealize.ShloMosaic.Init

@[expose] public section

noncomputable section

namespace Cert.Proof.Frames

open Idealize.ShloMosaic Idealize.ShloMosaic.TcCoe Idealize.SL.Sem

/-- The kernel runs, keeps its arguments and ends with every counter at zero. -/
theorem frame_p : Cert.quiescent_Kernel := fun m ρ _ => Cert.Kernel.Gen.frame m ρ
/-- The same of the kernel over the extended reals. -/
theorem frame_pi : Cert.quiescent_KernelIdeal := fun m ρ _ => Cert.KernelIdeal.Gen.frame m ρ
/-- The same of the reference over the extended reals. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Run.run (F := Ideal) m ρ)

/-- The idealized kernel's frame under the value claim's precondition, which it does not need. -/
theorem frame_pi_pre : Cert.quiescent_KernelIdeal_pre_general_position := fun m ρ _ => frame_pi m ρ trivial
/-- The reference's frame under the value claim's precondition, which it does not need. -/
theorem frame_ri_pre : Cert.quiescent_ReferenceIdeal_pre_general_position := fun m ρ _ => frame_ri m ρ trivial

/-- The kernel's marker strength is printed as the named value, which the table has. -/
theorem preserves : Cert.preserves_Kernel_KernelIdeal :=
  IdealRules.named_const.statement Cert.KernelIdeal.κ "marker" .f32 0x3FC00000#32 ((25165825 / 16777216 : ℝ) : EReal) rfl

end Cert.Proof.Frames

end
-- ==== Proof.Row.lean ====
/-
One token row of the kernel, read at an index: what its two half-blocks store is one function of the row.
-/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Tok

open Cert.KernelIdeal Cert.KernelIdeal.Gen

/-! ## The row's function -/

/-- The reciprocal length of a whitened row, from the row, the mean and the squared reciprocal deviations. -/
def rinvOf (x mean vt : Fin 2048 → EReal) : EReal :=
  Ideal.rsqrt (max (∑ k, (mean k - x k) * (mean k - x k) * vt k) (Ideal.ofBits .f32 0x179ABE15#32))

/-- A row's negated similarity with each attractor, scaled by the row's length; a codebook that is not the row's own is
    masked by the bias. -/
def maskedOf (x mean : Fin 2048 → EReal) (bh : Fin 30 → Fin 2048 → EReal) (bi : Fin 30 → EReal) (c : Fin 30) : EReal :=
  ∑ k, (mean k - x k) * bh c k + bi c

/-- The least of them. -/
def minOf (x mean : Fin 2048 → EReal) (bh : Fin 30 → Fin 2048 → EReal) (bi : Fin 30 → EReal) : EReal :=
  Finset.univ.fold min (Ideal.ofBits .f32 0x7F800000#32) (maskedOf x mean bh bi)

/-- The strength: the named one at a marker, the position's otherwise. -/
def alphaOf (id : BitVec 32) (al : EReal) : EReal :=
  Scalar.select (IntOp.cmpi .eq (IntOp.remsi .vector id 500#32) 0#32) (Named.named (F := Ideal) κ "marker" (φ := .f32) 0x3FC00000#32) al

/-- The step towards the attractor: the strength, clipped so that the displacement is at most 1/2 long. -/
def stepOf (al : EReal) (mn rinv : EReal) : EReal :=
  min al (Ideal.ofBits .f32 0x3F000000#32 * Ideal.rsqrt (max (Ideal.ofBits .f32 0x40000000#32
    - Ideal.ofBits .f32 0x40000000#32 * ((0 - mn) * rinv)) (Ideal.ofBits .f32 0x179ABE15#32)))

/-- The row's output at feature `j`. -/
def rowOut (x mean vt : Fin 2048 → EReal) (bh at' : Fin 30 → Fin 2048 → EReal) (bi : Fin 30 → EReal) (id : BitVec 32) (al : EReal)
    (j : Fin 2048) : EReal :=
  x j * (1 - stepOf (alphaOf id al) (minOf x mean bh bi) (rinvOf x mean vt) * rinvOf x mean vt)
    + stepOf (alphaOf id al) (minOf x mean bh bi) (rinvOf x mean vt) * rinvOf x mean vt * mean j
    + ∑ c, (if maskedOf x mean bh bi c = minOf x mean bh bi then stepOf (alphaOf id al) (minOf x mean bh bi) (rinvOf x mean vt) else 0)
        * at' c j

/-! ## Both half-blocks store it -/

/-- The first half-block's payload at a row and a feature. -/
theorem pay20_apply (X : FVec Ideal S512x2048 .f32) (M : FVec Ideal S1x2048 .f32) (BH AT : FVec Ideal S30x2048 .bf16)
    (VT : FVec Ideal S2048x1 .bf16) (BI : FVec Ideal S512x30 .bf16) (AL : FVec Ideal S512x1 .f32) (ID : IVec S512x1 32)
    (r : Fin 512) (j : Fin 2048) :
    k0_pay20 (F := Ideal) (k0_pay13 X) (k0_pay15 X M VT) (k0_pay16 X M BH BI) (k0_pay17 X M BH BI) (k0_pay18 (F := Ideal) ID) AL
        k0_pay19 AT M (ix2 r j)
      = rowOut (fun k => X (ix2 r k)) (fun k => M (ix2 0 k)) (fun k => VT (ix2 k 0)) (fun c k => BH (ix2 c k))
          (fun c k => AT (ix2 c k)) (fun c => BI (ix2 r c)) (ID (ix2 r 0)) (AL (ix2 r 0)) j := by
  pointwise [k0_pay20, k0_pay13, k0_pay14, k0_pay15, k0_pay16, k0_pay17, k0_pay18, k0_pay19]
  rfl

/-- The second half-block's payload at a row and a feature. -/
theorem pay1_apply (X : FVec Ideal S512x2048 .f32) (M : FVec Ideal S1x2048 .f32) (BH AT : FVec Ideal S30x2048 .bf16)
    (VT : FVec Ideal S2048x1 .bf16) (BI : FVec Ideal S512x30 .bf16) (AL : FVec Ideal S512x1 .f32) (ID : IVec S512x1 32)
    (r : Fin 512) (j : Fin 2048) :
    k0_pay1 (F := Ideal) (k0_pay21 X) (k0_pay23 (k0_pay21 X) M VT) (k0_pay24 (k0_pay21 X) M BH BI) (k0_pay25 (k0_pay21 X) M BH BI)
        (k0_pay26 ID AL) (k0_pay27 (k0_pay21 X) M BH VT BI) (Ideal.ofBits .f32 0x3F000000#32) AT M (ix2 r j)
      = rowOut (fun k => X (ix2 r k)) (fun k => M (ix2 0 k)) (fun k => VT (ix2 k 0)) (fun c k => BH (ix2 c k))
          (fun c k => AT (ix2 c k)) (fun c => BI (ix2 r c)) (ID (ix2 r 0)) (AL (ix2 r 0)) j := by
  pointwise [k0_pay1, k0_pay21, k0_pay22, k0_pay23, k0_pay24, k0_pay25, k0_pay26, k0_pay27]
  rfl

/-! ## The tables of the first grid point -/

/-- The squared reciprocal deviations. -/
theorem pay3_apply (V : FVec Ideal S2048x1 .f32) (k : Fin 2048) :
    k0_pay3 (F := Ideal) V (ix2 k 0)
      = Ideal.div 1 (Ideal.sqrt (V (ix2 k 0)) + Ideal.ofBits .f32 0x322BCC77#32)
        * Ideal.div 1 (Ideal.sqrt (V (ix2 k 0)) + Ideal.ofBits .f32 0x322BCC77#32) := by
  pointwise [k0_pay3]

/-- An attractor over its length. -/
theorem pay4_apply (A : FVec Ideal S30x2048 .f32) (c : Fin 30) (k : Fin 2048) :
    k0_pay4 (F := Ideal) A (ix2 c k)
      = A (ix2 c k) * Ideal.div 1 (max (Ideal.sqrt (∑ l, A (ix2 c l) * A (ix2 c l))) (Ideal.ofBits .f32 0x2B8CBCCC#32)) := by
  pointwise [k0_pay4]

/-- The attractors over the deviations. -/
theorem pay5_apply (V : FVec Ideal S1x2048 .f32) (A : FVec Ideal S30x2048 .f32) (c : Fin 30) (k : Fin 2048) :
    k0_pay5 (F := Ideal) V A (ix2 c k)
      = k0_pay4 (F := Ideal) A (ix2 c k) * Ideal.div 1 (Ideal.sqrt (V (ix2 0 k)) + Ideal.ofBits .f32 0x322BCC77#32) := by
  pointwise [k0_pay5, k0_pay2]

/-- The attractors times the deviations. -/
theorem pay7_apply (V : FVec Ideal S1x2048 .f32) (A : FVec Ideal S30x2048 .f32) (c : Fin 30) (k : Fin 2048) :
    k0_pay7 (F := Ideal) (k0_pay6 V A) (ix2 c k)
      = k0_pay4 (F := Ideal) A (ix2 c k) * (Ideal.sqrt (V (ix2 0 k)) + Ideal.ofBits .f32 0x322BCC77#32) := by
  pointwise [k0_pay7, k0_pay6, k0_pay2]

end Cert.KernelIdeal.Tok

end
-- ==== Proof.Consts.lean ====
/-
The numbers the programs name, as real numbers; the codebook of a position and the strength of the pull.
-/
module

public import proofs.«01_k».proof.Proof.Row

@[expose] public section

noncomputable section

open Idealize.ShloMosaic

namespace Cert.Tok

/-! The 32-bit words the programs name, as rationals. -/

/-- The word of 1e-24. -/
def tinySq : ℝ := 10141205 / 2 ^ 103
/-- The word of 1e-12. -/
def tiny : ℝ := 9223372 / 2 ^ 63
/-- The word of 1e-8. -/
def eps : ℝ := 11258999 / 2 ^ 50
/-- The word of 0.3. -/
def base : ℝ := 5033165 / 16777216

/-- The word of 1e-24 reads as `tinySq`. -/
theorem word_tinySq : Ideal.ofBits .f32 0x179ABE15#32 = ((tinySq : ℝ) : EReal) := by
  unfold tinySq; simp [Ideal.ofBits, Ideal.ieee, -EReal.coe_mul]; norm_num
/-- The word of 1e-12 reads as `tiny`. -/
theorem word_tiny : Ideal.ofBits .f32 0x2B8CBCCC#32 = ((tiny : ℝ) : EReal) := by
  unfold tiny; simp [Ideal.ofBits, Ideal.ieee, -EReal.coe_mul]; norm_num
/-- The word of 1e-8 reads as `eps`. -/
theorem word_eps : Ideal.ofBits .f32 0x322BCC77#32 = ((eps : ℝ) : EReal) := by
  unfold eps; simp [Ideal.ofBits, Ideal.ieee, -EReal.coe_mul]; norm_num
/-- The word of 0.3 reads as `base`. -/
theorem word_base : Ideal.ofBits .f32 0x3E99999A#32 = ((base : ℝ) : EReal) := by
  unfold base; simp [Ideal.ofBits, Ideal.ieee, -EReal.coe_mul]; norm_num
/-- The word of 0.6 reads as twice `base`. -/
theorem word_base2 : Ideal.ofBits .f32 0x3F19999A#32 = ((base * 2 : ℝ) : EReal) := by
  unfold base; simp [Ideal.ofBits, Ideal.ieee, -EReal.coe_mul]; norm_num
/-- This word reads as one half. -/
theorem word_half : Ideal.ofBits .f32 0x3F000000#32 = ((1 / 2 : ℝ) : EReal) := by
  simp [Ideal.ofBits, Ideal.ieee, -EReal.coe_mul]; norm_num
/-- This word reads as two. -/
theorem word_two : Ideal.ofBits .f32 0x40000000#32 = ((2 : ℝ) : EReal) := by
  simp [Ideal.ofBits, Ideal.ieee, -EReal.coe_mul]; norm_num
/-- This word reads as five. -/
theorem word_five : Ideal.ofBits .f32 0x40A00000#32 = ((5 : ℝ) : EReal) := by
  simp [Ideal.ofBits, Ideal.ieee, -EReal.coe_mul]; norm_num
/-- This word reads as 4096. -/
theorem word_len : Ideal.ofBits .f32 0x45800000#32 = ((4096 : ℝ) : EReal) := by
  simp [Ideal.ofBits, Ideal.ieee, -EReal.coe_mul]; norm_num
/-- The word of 0.7 reads as this fraction. -/
theorem word_late : Ideal.ofBits .f32 0x3F333333#32 = ((11744051 / 16777216 : ℝ) : EReal) := by
  simp [Ideal.ofBits, Ideal.ieee, -EReal.coe_mul]; norm_num
/-- This word reads as plus infinity. -/
theorem word_top : Ideal.ofBits .f32 0x7F800000#32 = (⊤ : EReal) := by
  simp [Ideal.ofBits, Ideal.ieee]
/-- This word reads as minus infinity. -/
theorem word_bot : Ideal.ofBits .f32 0xFF800000#32 = (⊥ : EReal) := by
  simp [Ideal.ofBits, Ideal.ieee]

/-- The strength at a marker: five times the base. -/
theorem named_marker : Named.named (F := Ideal) Cert.KernelIdeal.κ "marker" (φ := .f32) 0x3FC00000#32 = ((base * 5 : ℝ) : EReal) := by
  rw [show (base * 5 : ℝ) = (25165825 / 16777216 : ℝ) by unfold base; norm_num]
  exact IdealRules.named_const.ideal_named_scalar _ _ _ _ rfl

/-- The floor of the squared lengths is positive. -/
theorem tinySq_pos : 0 < tinySq := by unfold tinySq; norm_num
/-- The floor of the lengths is positive. -/
theorem tiny_pos : 0 < tiny := by unfold tiny; norm_num
/-- The offset of the deviations is positive. -/
theorem eps_pos : 0 < eps := by unfold eps; norm_num
/-- The base strength is positive. -/
theorem base_pos : 0 < base := by unfold base; norm_num
/-- The floor of the lengths, squared, is at most the floor of the squared lengths. -/
theorem tiny_sq_le : tiny * tiny ≤ tinySq := by unfold tiny tinySq; norm_num
/-- The floor of the squared lengths is at most 1/16. -/
theorem tinySq_le : tinySq ≤ 1 / 16 := by unfold tinySq; norm_num

/-- A selection by a bit that decides `P`. -/
theorem select_iff {α : Type} {c : BitVec 1} {P : Prop} [Decidable P] (h : c = 1#1 ↔ P) (a b : α) :
    Scalar.select c a b = if P then a else b := if_congr h rfl rfl

/-- The codebook of a position: 0 up to 1228, 1 up to 2867, 2 after. -/
def book (s : ℕ) : Fin 3 := if s ≤ 1228 then 0 else if s ≤ 2867 then 1 else 2

/-- The strength of the pull on a token of identity `id` at a position: the base, five times over at a marker (a multiple of
    500), twice over past 70% of the sequence. -/
def strength (id : BitVec 32) (s : ℕ) : ℝ := base * (if id.toNat % 500 = 0 then 5 else if 2868 ≤ s then 2 else 1)

/-- No strength is below the base. -/
theorem strength_ge (id : BitVec 32) (s : ℕ) : base ≤ strength id s := by
  have := base_pos
  unfold strength; split_ifs <;> linarith
/-- No strength is above 8/5. -/
theorem strength_le (id : BitVec 32) (s : ℕ) : strength id s ≤ 8 / 5 := by
  unfold strength base; split_ifs <;> norm_num

end Cert.Tok

end
-- ==== Proof.Reals.lean ====
/-
The mathematics of one token in real numbers, and the facts about the arguments it takes.
-/
module

public import proofs.«01_k».proof.Proof.Consts

@[expose] public section

noncomputable section

open Idealize.ShloMosaic

namespace Cert.Tok

/-- A finite sum of reals, summed as extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s h ih => rw [Finset.sum_insert h, Finset.sum_insert h, ih, EReal.coe_add]

/-- The larger of two reals. -/
theorem coe_max (a b : ℝ) : max (a : EReal) (b : EReal) = ((max a b : ℝ) : EReal) :=
  (EReal.coe_strictMono.monotone.map_max).symm
/-- The smaller of two reals. -/
theorem coe_min (a b : ℝ) : min (a : EReal) (b : EReal) = ((min a b : ℝ) : EReal) :=
  (EReal.coe_strictMono.monotone.map_min).symm
/-- The quotient of two reals, the divisor not zero. -/
theorem coe_div (a : ℝ) {b : ℝ} (h : b ≠ 0) : Ideal.div (a : EReal) (b : EReal) = ((a / b : ℝ) : EReal) := by
  rw [Ideal.div_coe h, ← EReal.coe_mul, mul_one_div]
/-- The reciprocal of a real that is not zero. -/
theorem coe_one_div {b : ℝ} (h : b ≠ 0) : Ideal.div 1 (b : EReal) = ((1 / b : ℝ) : EReal) := by
  rw [← EReal.coe_one, coe_div 1 h]
/-- The root of a real that is not negative. -/
theorem coe_sqrt {a : ℝ} (h : 0 ≤ a) : Ideal.sqrt (a : EReal) = ((√a : ℝ) : EReal) := by
  show (if a < 0 then (⊥ : EReal) else ((√a : ℝ) : EReal)) = _
  rw [if_neg h.not_gt]
/-- The reciprocal root of a positive real. -/
theorem coe_rsqrt {a : ℝ} (h : 0 < a) : Ideal.rsqrt (a : EReal) = (((√a)⁻¹ : ℝ) : EReal) := by
  show (if a < 0 then (⊥ : EReal) else if a = 0 then ⊤ else (((√a)⁻¹ : ℝ) : EReal)) = _
  rw [if_neg h.le.not_gt, if_neg h.ne']

/-! ## One token -/

section token

variable (X M V : Fin 2048 → ℝ)

/-- The deviation of a feature. -/
def dev (k : Fin 2048) : ℝ := √(V k) + eps
/-- The whitened row. -/
def white (k : Fin 2048) : ℝ := (X k - M k) / dev V k
/-- Its squared length. -/
def lenSq : ℝ := ∑ k, white X M V k * white X M V k
/-- The whitened row over its length. -/
def dir (k : Fin 2048) : ℝ := white X M V k / √(lenSq X M V)
/-- An attractor over its length. -/
def unit (a : Fin 2048 → ℝ) (k : Fin 2048) : ℝ := a k / √(∑ l, a l * a l)
/-- The similarity of the row with an attractor. -/
def sim (a : Fin 2048 → ℝ) : ℝ := ∑ k, unit a k * dir X M V k
/-- The step towards an attractor under a strength: the strength, scaled down where the displacement would be longer than 1/2. -/
def pullBy (al : ℝ) (a : Fin 2048 → ℝ) : ℝ :=
  al * min 1 (1 / 2 / max √(∑ k, al * (unit a k - dir X M V k) * (al * (unit a k - dir X M V k))) tiny)
/-- The row's output, pulled to an attractor. -/
def outReal (al : ℝ) (a : Fin 2048 → ℝ) (j : Fin 2048) : ℝ :=
  X j + pullBy X M V al a * (unit a j - dir X M V j) * dev V j

/-- A deviation is positive. -/
theorem dev_pos (k : Fin 2048) : 0 < dev V k := add_pos_of_nonneg_of_pos (Real.sqrt_nonneg _) eps_pos

/-- A vector over its length has length one. -/
theorem unit_sq (a : Fin 2048 → ℝ) (h : 0 < √(∑ l, a l * a l)) : ∑ k, unit a k * unit a k = 1 := by
  have e : ∀ k, unit a k * unit a k = a k * a k / (∑ l, a l * a l) := fun k => by
    unfold unit
    rw [div_mul_div_comm, Real.mul_self_sqrt (Real.sqrt_pos.1 h).le]
  rw [Finset.sum_congr rfl fun k _ => e k, ← Finset.sum_div, div_self (Real.sqrt_pos.1 h).ne']

/-- The whitened row over its length has length one. -/
theorem dir_sq (h : 0 < lenSq X M V) : ∑ k, dir X M V k * dir X M V k = 1 :=
  unit_sq (white X M V) (Real.sqrt_pos.2 h)

/-- The squared distance of two unit vectors is twice one minus their product. -/
theorem gap (a : Fin 2048 → ℝ) (ha : 0 < √(∑ l, a l * a l)) (h : 0 < lenSq X M V) :
    ∑ k, (unit a k - dir X M V k) * (unit a k - dir X M V k) = 2 - 2 * sim X M V a := by
  have e : ∀ k, (unit a k - dir X M V k) * (unit a k - dir X M V k)
      = unit a k * unit a k + dir X M V k * dir X M V k - 2 * (unit a k * dir X M V k) := fun k => by ring
  rw [Finset.sum_congr rfl fun k _ => e k, Finset.sum_sub_distrib, Finset.sum_add_distrib, unit_sq a ha, dir_sq X M V h,
    ← Finset.mul_sum]
  unfold sim
  norm_num

/-- Clipping the step by the squared distance is clipping the displacement by its length. -/
theorem clip (al G : ℝ) (hb : base ≤ al) (h8 : al ≤ 8 / 5) (hG : 0 ≤ G) :
    min al (1 / 2 * (√(max G tinySq))⁻¹) = al * min 1 (1 / 2 / max (al * √G) tiny) := by
  have hal : 0 < al := lt_of_lt_of_le base_pos hb
  have h16 : √(1 / 16 : ℝ) = 1 / 4 := by
    rw [show (1 / 16 : ℝ) = (1 / 4) ^ 2 by norm_num]
    exact Real.sqrt_sq (by norm_num)
  have ht : tiny < base / 4 := by unfold tiny base; norm_num
  by_cases h : G ≤ 1 / 16
  · have h1 : √(max G tinySq) ≤ 1 / 4 := h16 ▸ Real.sqrt_le_sqrt (max_le h tinySq_le)
    have h0 : 0 < √(max G tinySq) := Real.sqrt_pos.2 (lt_max_of_lt_right tinySq_pos)
    have h2 : (4 : ℝ) ≤ (√(max G tinySq))⁻¹ := by
      rw [le_inv_comm₀ (by norm_num) h0]; linarith
    have h3 : √G ≤ 1 / 4 := h16 ▸ Real.sqrt_le_sqrt h
    have h4 : max (al * √G) tiny ≤ 1 / 2 := by
      refine max_le ?_ (by unfold tiny; norm_num)
      calc al * √G ≤ 8 / 5 * (1 / 4) := mul_le_mul h8 h3 (Real.sqrt_nonneg _) (by norm_num)
        _ ≤ 1 / 2 := by norm_num
    have h5 : 1 ≤ 1 / 2 / max (al * √G) tiny := by
      rw [le_div_iff₀ (lt_max_of_lt_right tiny_pos)]; linarith
    rw [min_eq_left (by linarith), min_eq_left h5, mul_one]
  · have h := not_le.1 h
    have h1 : 1 / 4 < √G := h16 ▸ Real.sqrt_lt_sqrt (by norm_num) h
    have h2 : tiny ≤ al * √G := by
      have : base * (1 / 4) ≤ al * √G := mul_le_mul hb h1.le (by norm_num) hal.le
      linarith
    rw [max_eq_left (tinySq_le.trans h.le), max_eq_left h2, mul_min_of_nonneg _ _ hal.le, mul_one]
    congr 1
    have h3 : √G ≠ 0 := (lt_trans (by norm_num) h1).ne'
    field_simp

/-- The step, from the similarity. -/
theorem pullBy_eq (al : ℝ) (a : Fin 2048 → ℝ) (hb : base ≤ al) (h8 : al ≤ 8 / 5) (ha : 0 < √(∑ l, a l * a l))
    (h : 0 < lenSq X M V) :
    pullBy X M V al a = min al (1 / 2 * (√(max (2 - 2 * sim X M V a) tinySq))⁻¹) := by
  have hal : 0 < al := lt_of_lt_of_le base_pos hb
  have hG := gap X M V a ha h
  have h0 : 0 ≤ 2 - 2 * sim X M V a := hG ▸ Finset.sum_nonneg fun k _ => mul_self_nonneg _
  rw [clip al _ hb h8 h0]
  unfold pullBy
  have e : ∀ k, al * (unit a k - dir X M V k) * (al * (unit a k - dir X M V k))
      = al * al * ((unit a k - dir X M V k) * (unit a k - dir X M V k)) := fun k => by ring
  rw [Finset.sum_congr rfl fun k _ => e k, ← Finset.mul_sum, hG, Real.sqrt_mul (mul_self_nonneg al), Real.sqrt_mul_self hal.le]

/-- The output as the kernel writes it. -/
theorem outReal_eq (al : ℝ) (a : Fin 2048 → ℝ) (j : Fin 2048) :
    X j * (1 - pullBy X M V al a * (√(lenSq X M V))⁻¹) + pullBy X M V al a * (√(lenSq X M V))⁻¹ * M j
        + pullBy X M V al a * (unit a j * dev V j) = outReal X M V al a j := by
  have h : dir X M V j * dev V j = (X j - M j) * (√(lenSq X M V))⁻¹ := by
    have := (dev_pos V j).ne'
    unfold dir white
    field_simp
  unfold outReal
  linear_combination (pullBy X M V al a) * h

end token

/-! ## The arguments -/

/-- What `general_position` says of the arguments, in real numbers: every number is finite, no variance is negative, every
    identity is in the vocabulary, every whitened row and every attractor is as long as the programs' floors, and no two
    attractors of a token's codebook are both the most similar. -/
structure General (x : FVec Ideal ⟨3, ![4, 4096, 2048]⟩ .f32) (ids : IVec ⟨2, ![4, 4096]⟩ 32) (a : FVec Ideal ⟨3, ![3, 10, 2048]⟩ .f32)
    (mean var : FVec Ideal ⟨1, ![2048]⟩ .f32) (X : Fin 4 → Fin 4096 → Fin 2048 → ℝ) (A : Fin 3 → Fin 10 → Fin 2048 → ℝ)
    (M V : Fin 2048 → ℝ) : Prop where
  hx : ∀ b s k, x (ix3 b s k) = ((X b s k : ℝ) : EReal)
  ha : ∀ t c k, a (ix3 t c k) = ((A t c k : ℝ) : EReal)
  hm : ∀ k, mean (ix1 k) = ((M k : ℝ) : EReal)
  hv : ∀ k, var (ix1 k) = ((V k : ℝ) : EReal)
  var_nonneg : ∀ k, 0 ≤ V k
  vocab : ∀ b s, (ids (ix2 b s)).toNat < 32000
  token : ∀ b s, tinySq ≤ lenSq (X b s) M V
  attractor : ∀ t c, tiny ≤ √(∑ l, A t c l * A t c l)
  unique : ∀ b s c c', (∀ e, sim (X b s) M V (A (book s.val) e) ≤ sim (X b s) M V (A (book s.val) c)) →
    (∀ e, sim (X b s) M V (A (book s.val) e) ≤ sim (X b s) M V (A (book s.val) c')) → c = c'

end Cert.Tok

end
-- ==== Proof.Tables.lean ====
/-
The kernel's two tables over the positions, in closed form: which attractors a position may choose, and the strength of
its pull.
-/
module

public import Idealize.ShloMosaic.Lib.Routing.Words
public import proofs.«01_k».proof.Proof.Consts

@[expose] public section

set_option maxRecDepth 16384

noncomputable section

open Idealize.ShloMosaic Idealize.ShloMosaic.Routing

namespace Cert.KernelIdeal.Tok

open Cert.KernelIdeal Cert.KernelIdeal.Gen Cert.Tok

/-- The remainder by the length of a sequence. -/
theorem rem_len (n : ℕ) (h : n < 2 ^ 31) : IntOp.remsi .vector (BitVec.ofNat 32 n) 4096#32 = BitVec.ofNat 32 (n % 4096) :=
  remsi_word .vector h (by norm_num) (by norm_num)

/-- A small number as a word reads back as itself. -/
theorem toInt_word (n : ℕ) (h : n < 2 ^ 31) : (BitVec.ofNat 32 n).toInt = n := by
  rw [BitVec.toInt_eq_toNat_of_lt (by rw [BitVec.toNat_ofNat]; omega), BitVec.toNat_ofNat, Nat.mod_eq_of_lt (by omega)]

/-- The column's codebook: the floor quotient by ten, as the kernel computes it. -/
theorem column_book : ∀ c : Fin 30, Scalar.select
        (IntOp.andi
          (IntOp.cmpi CmpIPredicate.ne
            (IntOp.subi (BitVec.setWidth 32 (IntOp.cmpi CmpIPredicate.sgt (BitVec.ofNat 32 ↑c) 0#32))
              (BitVec.setWidth 32 (IntOp.cmpi CmpIPredicate.slt (BitVec.ofNat 32 ↑c) 0#32)))
            (Scalar.subi (Scalar.extui (Scalar.cmpi CmpIPredicate.sgt 10#32 0#32))
              (Scalar.extui (Scalar.cmpi CmpIPredicate.slt 10#32 0#32))))
          (IntOp.cmpi CmpIPredicate.ne (IntOp.remsi ArithUnit.vector (BitVec.ofNat 32 ↑c) 10#32) 0#32))
        (IntOp.subi (IntOp.divsi ArithUnit.vector (BitVec.ofNat 32 ↑c) 10#32) 1#32)
        (IntOp.divsi ArithUnit.vector (BitVec.ofNat 32 ↑c) 10#32) = BitVec.ofNat 32 (c.val / 10) := by
  intro c
  rw [remsi_word .vector (by omega) (by norm_num) (by norm_num), divsi_word .vector (by omega) (by norm_num) (by norm_num)]
  revert c
  decide +kernel

/-- The row's codebook. -/
theorem row_book (R : ℕ) (h : R < 2 ^ 31) :
    Scalar.select (IntOp.cmpi CmpIPredicate.sle (IntOp.remsi ArithUnit.vector (BitVec.ofNat 32 R) 4096#32) 1228#32) (0#32)
        (Scalar.select (IntOp.cmpi CmpIPredicate.sle (IntOp.remsi ArithUnit.vector (BitVec.ofNat 32 R) 4096#32) 2867#32) 1#32 2#32)
      = BitVec.ofNat 32 (book (R % 4096)).val := by
  rw [rem_len R h]
  rw [select_iff (P := R % 4096 ≤ 1228) (by rw [IntOp.cmpi_sle, toInt_word _ (by omega), show (1228#32 : BitVec 32).toInt = 1228 from rfl]; omega),
    select_iff (P := R % 4096 ≤ 2867) (by rw [IntOp.cmpi_sle, toInt_word _ (by omega), show (2867#32 : BitVec 32).toInt = 2867 from rfl]; omega)]
  unfold book
  split_ifs <;> first | rfl | omega

/-- The table of offsets: zero on the attractors of the position's codebook, infinite on the others. -/
theorem offsets_apply (R : Fin 16384) (c : Fin 30) :
    k0_pay11 (F := Ideal) k0_pay8 k0_pay9 k0_pay10 (ix2 R c) = if c.val / 10 = (book (R.val % 4096)).val then (0 : EReal) else ⊤ := by
  have h8 : k0_pay8 (ix2 R c) = IntOp.cmpi .eq (BitVec.ofNat 32 (c.val / 10)) (BitVec.ofNat 32 (book (R.val % 4096)).val) := by
    rw [← column_book c, ← row_book R.val (by omega)]
    unfold k0_pay8
    pointwise
  unfold k0_pay11 k0_pay9 k0_pay10
  pointwise
  rw [h8, word_top]
  refine select_iff (IntOp.cmpi_eq.trans ⟨fun h => ?_, fun h => congrArg _ h⟩) _ _
  have h' := congrArg BitVec.toNat h
  rw [BitVec.toNat_ofNat, BitVec.toNat_ofNat] at h'
  have := (book (R.val % 4096)).isLt
  omega

/-- The strength at a row: a marker's, or the table's. -/
theorem alphaOf_eq (R : Fin 16384) (id : BitVec 32) (hid : id.toNat < 32000) :
    alphaOf id (k0_pay12 (F := Ideal) (ix2 R 0)) = ((strength id (R.val % 4096) : ℝ) : EReal) := by
  have h12 : k0_pay12 (F := Ideal) (ix2 R 0) = if 2868 ≤ R.val % 4096 then ((base * 2 : ℝ) : EReal) else ((base : ℝ) : EReal) := by
    unfold k0_pay12
    pointwise
    rw [rem_len R.val (by omega), word_base, word_base2]
    refine select_iff ?_ _ _
    rw [IntOp.cmpi_sge, toInt_word (R.val % 4096) (by omega), show (2868#32 : BitVec 32).toInt = 2868 from rfl]
    omega
  unfold alphaOf strength
  rw [h12, named_marker]
  have hm : IntOp.cmpi .eq (IntOp.remsi .vector id 500#32) 0#32 = 1#1 ↔ id.toNat % 500 = 0 := by
    rw [IntOp.cmpi_eq]
    exact (IntOp.remsi_eq_zero_iff .vector (by omega) 500 (by norm_num) (by norm_num)).trans Nat.dvd_iff_mod_eq_zero
  rw [select_iff hm]
  split_ifs <;> simp

end Cert.KernelIdeal.Tok

end
-- ==== Proof.Points.lean ====
/-
What each grid point of the kernel stores, and what its scratch tables hold.
-/
module

public import proofs.«01_k».proof.Proof.Gen.KernelIdeal.Value
public import Idealize.ShloMosaic.Lib.Pipeline.ValueKit
public import Idealize.ShloMosaic.Lib.Pointwise
public import proofs.«01_k».proof.Proof.Row

@[expose] public section

set_option maxRecDepth 16384

noncomputable section

open Idealize.ShloMosaic Idealize.ShloMosaic.TcCoe Idealize.SL.Sem
open Idealize.ShloMosaic.Pipeline (Dat)

namespace Cert.KernelIdeal.Tok

open Cert.KernelIdeal Cert.KernelIdeal.Gen

/-- What a grid point stores at a block index, over what the tables hold. -/
def blkOut (X : FVec Ideal S1024x2048 .f32) (ID : IVec S1024x1 32) (M : FVec Ideal S1x2048 .f32) (BH AT : FVec Ideal S30x2048 .bf16)
    (VT : FVec Ideal S2048x1 .bf16) (BI : FVec Ideal S16384x30 .bf16) (AL : FVec Ideal S16384x1 .f32) (n : Fin 16)
    (r : Fin 1024) (j : Fin 2048) : EReal :=
  rowOut (fun k => X (ix2 r k)) (fun k => M (ix2 0 k)) (fun k => VT (ix2 k 0)) (fun c k => BH (ix2 c k)) (fun c k => AT (ix2 c k))
    (fun c => BI (ix2 ⟨1024 * n.val + r.val, by omega⟩ c)) (ID (ix2 r 0)) (AL (ix2 ⟨1024 * n.val + r.val, by omega⟩ 0)) j

variable (m : (ℓ : Loc nD τ sig) → Buf (Elt Ideal) ℓ)

/-! A scratch buffer read whole is what it holds. -/

/-- Reading all of the first table gives its contents. -/
theorem read_scratch0 (v) (h : (Memref.whole cc0_scratch0 : Memref sig .tc .vmem S30x2048 .bf16).IsWhole) :
    View.read (Elt Idealize.ShloMosaic.Ideal) (View.whole cc0_scratch0) (h.unread v) = v := h.read_unread v
/-- Reading all of the second table gives its contents. -/
theorem read_scratch1 (v) (h : (Memref.whole cc0_scratch1 : Memref sig .tc .vmem S30x2048 .bf16).IsWhole) :
    View.read (Elt Idealize.ShloMosaic.Ideal) (View.whole cc0_scratch1) (h.unread v) = v := h.read_unread v
/-- Reading all of the third table gives its contents. -/
theorem read_scratch2 (v) (h : (Memref.whole cc0_scratch2 : Memref sig .tc .vmem S2048x1 .bf16).IsWhole) :
    View.read (Elt Idealize.ShloMosaic.Ideal) (View.whole cc0_scratch2) (h.unread v) = v := h.read_unread v
/-- Reading all of the fourth table gives its contents. -/
theorem read_scratch3 (v) (h : (Memref.whole cc0_scratch3 : Memref sig .tc .vmem S16384x30 .bf16).IsWhole) :
    View.read (Elt Idealize.ShloMosaic.Ideal) (View.whole cc0_scratch3) (h.unread v) = v := h.read_unread v
/-- Reading all of the fifth table gives its contents. -/
theorem read_scratch4 (v) (h : (Memref.whole cc0_scratch4 : Memref sig .tc .vmem S16384x1 .f32).IsWhole) :
    View.read (Elt Idealize.ShloMosaic.Ideal) (View.whole cc0_scratch4) (h.unread v) = v := h.read_unread v

/-- The row's function of equal reads is equal. -/
theorem rowOut_congr {x x' mean mean' vt vt' : Fin 2048 → EReal} {bh bh' at' at'' : Fin 30 → Fin 2048 → EReal} {bi bi' : Fin 30 → EReal}
    {id id' : BitVec 32} {al al' : EReal} (j : Fin 2048) (h1 : x = x') (h2 : mean = mean') (h3 : vt = vt') (h4 : bh = bh')
    (h5 : at' = at'') (h6 : bi = bi') (h7 : id = id') (h8 : al = al') :
    rowOut x mean vt bh at' bi id al j = rowOut x' mean' vt' bh' at'' bi' id' al' j := by
  subst h1 h2 h3 h4 h5 h6 h7 h8; rfl

/-- The grid's one coordinate is the point's number. -/
theorem coords_val : ∀ t : Fin cfg0.N, ((grid0.coords t) 0).val = t.val := (by decide +kernel : ∀ t : Fin grid0.N, _)

/-! The rows a point loads of the two row tables. -/

/-- The first half-block reads the first row table from this row. -/
theorem off1_0 (t : Fin cfg0.N) : k0_off1 (grid0.coords t) 0#32 0 = 1024 * t.val :=
  (congrFun (k0_off1_eq (grid0.coords t) 0) 0).trans (by rw [← coords_val t]; rfl)
/-- The second half-block reads the first row table from this row. -/
theorem off1_512 (t : Fin cfg0.N) : k0_off1 (grid0.coords t) 512#32 0 = 1024 * t.val + 512 :=
  (congrFun (k0_off1_eq (grid0.coords t) 1) 0).trans (by rw [← coords_val t]; rfl)
/-- The first half-block reads the first row table from the first column. -/
theorem off1_0' (t : Fin cfg0.N) : k0_off1 (grid0.coords t) 0#32 1 = 0 := congrFun (k0_off1_eq (grid0.coords t) 0) 1
/-- The second half-block reads the first row table from the first column. -/
theorem off1_512' (t : Fin cfg0.N) : k0_off1 (grid0.coords t) 512#32 1 = 0 := congrFun (k0_off1_eq (grid0.coords t) 1) 1
/-- The first half-block reads the second row table from this row. -/
theorem off2_0 (t : Fin cfg0.N) : k0_off2 (grid0.coords t) 0#32 0 = 1024 * t.val :=
  (congrFun (k0_off2_eq (grid0.coords t) 0) 0).trans (by rw [← coords_val t]; rfl)
/-- The second half-block reads the second row table from this row. -/
theorem off2_512 (t : Fin cfg0.N) : k0_off2 (grid0.coords t) 512#32 0 = 1024 * t.val + 512 :=
  (congrFun (k0_off2_eq (grid0.coords t) 1) 0).trans (by rw [← coords_val t]; rfl)
/-- The first half-block reads the second row table from the first column. -/
theorem off2_0' (t : Fin cfg0.N) : k0_off2 (grid0.coords t) 0#32 1 = 0 := congrFun (k0_off2_eq (grid0.coords t) 0) 1
/-- The second half-block reads the second row table from the first column. -/
theorem off2_512' (t : Fin cfg0.N) : k0_off2 (grid0.coords t) 512#32 1 = 0 := congrFun (k0_off2_eq (grid0.coords t) 1) 1

/-- A later point stores the block's function of what the scratch holds. -/
theorem point_B (c : Dev nD) (t : Fin cfg0.N) (h : ¬ t.val % 16 = 0) (r : Fin 1024) (j : Fin 2048) :
    (outsAt0 m c t.val t.isLt).1 (ix2 r j)
      = blkOut (iblk m c 0 t) (iblk m c 1 t) (iblk m c 3 t) (outsAt0 m c (t.val - 1) (by omega)).2.1
          (outsAt0 m c (t.val - 1) (by omega)).2.2.1 (outsAt0 m c (t.val - 1) (by omega)).2.2.2.1
          (outsAt0 m c (t.val - 1) (by omega)).2.2.2.2.1 (outsAt0 m c (t.val - 1) (by omega)).2.2.2.2.2
          ⟨t.val, lt_of_lt_of_eq t.isLt N_0⟩ r j := by
  rw [outsAt0_B m c t h]; frame_out
  canon_tiles x hx
  · idx_vars x
    refine (pay1_apply _ _ _ _ _ _ _ _ _ _).trans ?_
    simp only [read_scratch0, read_scratch1, read_scratch2, read_scratch3, read_scratch4]
    obtain rfl : j = x1 := Fin.ext hx1
    unfold blkOut
    refine rowOut_congr _ (funext fun k => ?_) rfl rfl rfl rfl (funext fun k => ?_) ?_ ?_
    · pointwise
      exact congrArg _ ((ix2_inj ..).2 ⟨Fin.ext (by dsimp only; omega), rfl⟩)
    · pointwise
      exact congrArg _ ((ix2_inj ..).2 ⟨Fin.ext (by dsimp only; rw [off1_512]; omega), Fin.ext (by dsimp only; rw [off1_512']; omega)⟩)
    · pointwise
      exact congrArg _ ((ix2_inj ..).2 ⟨Fin.ext (by dsimp only; omega), rfl⟩)
    · pointwise
      exact congrArg _ ((ix2_inj ..).2 ⟨Fin.ext (by dsimp only; rw [off2_512]; omega), Fin.ext (by dsimp only; rw [off2_512']; first | rfl | omega)⟩)
  · idx_vars x
    refine (pay20_apply _ _ _ _ _ _ _ _ _ _).trans ?_
    simp only [read_scratch0, read_scratch1, read_scratch2, read_scratch3, read_scratch4]
    obtain rfl : j = x1 := Fin.ext hx1
    unfold blkOut
    refine rowOut_congr _ (funext fun k => ?_) rfl rfl rfl rfl (funext fun k => ?_) ?_ ?_
    · pointwise
      exact congrArg _ ((ix2_inj ..).2 ⟨Fin.ext (by dsimp only; omega), rfl⟩)
    · pointwise
      exact congrArg _ ((ix2_inj ..).2 ⟨Fin.ext (by dsimp only; rw [off1_0]; omega), Fin.ext (by dsimp only; rw [off1_0']; omega)⟩)
    · pointwise
      exact congrArg _ ((ix2_inj ..).2 ⟨Fin.ext (by dsimp only; omega), rfl⟩)
    · pointwise
      exact congrArg _ ((ix2_inj ..).2 ⟨Fin.ext (by dsimp only; rw [off2_0]; omega), Fin.ext (by dsimp only; rw [off2_0']; first | rfl | omega)⟩)

set_option maxHeartbeats 1600000 in
/-- The first point stores the block's function of the tables it fills. -/
theorem point_A (c : Dev nD) (t : Fin cfg0.N) (h : t.val % 16 = 0) (r : Fin 1024) (j : Fin 2048) :
    (outsAt0 m c t.val t.isLt).1 (ix2 r j)
      = blkOut (iblk m c 0 t) (iblk m c 1 t) (iblk m c 3 t) (k0_pay5 (iblk m c 4 t) (iblk m c 2 t))
          (k0_pay7 (k0_pay6 (iblk m c 4 t) (iblk m c 2 t))) (k0_pay3 (iblk m c 5 t)) (k0_pay11 k0_pay8 k0_pay9 k0_pay10) k0_pay12
          ⟨t.val, lt_of_lt_of_eq t.isLt N_0⟩ r j := by
  rw [outsAt0_A m c t h]; frame_out
  canon_tiles x hx
  · idx_vars x
    refine (pay1_apply _ _ (k0_pay5 (iblk m c 4 t) (iblk m c 2 t)) (k0_pay7 (k0_pay6 (iblk m c 4 t) (iblk m c 2 t)))
      (k0_pay3 (iblk m c 5 t)) _ _ _ _ _).trans ?_
    obtain rfl : j = x1 := Fin.ext hx1
    unfold blkOut
    refine rowOut_congr _ (funext fun k => ?_) rfl rfl rfl rfl (funext fun k => ?_) ?_ ?_
    · pointwise
      exact congrArg _ ((ix2_inj ..).2 ⟨Fin.ext (by dsimp only; omega), rfl⟩)
    · generalize hB : k0_pay11 (F := Ideal) _ _ _ = B
      refine Eq.trans (b := B (ix2 ⟨1024 * t.val + r.val, by have := lt_of_lt_of_eq t.isLt N_0; omega⟩ k)) ?_ (congrFun hB.symm _)
      pointwise
      exact congrArg B ((ix2_inj ..).2 ⟨Fin.ext (by dsimp only; rw [off1_512]; omega), Fin.ext (by dsimp only; rw [off1_512']; omega)⟩)
    · pointwise
      exact congrArg _ ((ix2_inj ..).2 ⟨Fin.ext (by dsimp only; omega), rfl⟩)
    · generalize k0_pay12 (F := Ideal) = B
      pointwise
      exact congrArg _ ((ix2_inj ..).2 ⟨Fin.ext (by dsimp only; rw [off2_512]; omega), Fin.ext (by dsimp only; rw [off2_512']; first | rfl | omega)⟩)
  · idx_vars x
    refine (pay20_apply _ _ (k0_pay5 (iblk m c 4 t) (iblk m c 2 t)) (k0_pay7 (k0_pay6 (iblk m c 4 t) (iblk m c 2 t)))
      (k0_pay3 (iblk m c 5 t)) _ _ _ _ _).trans ?_
    obtain rfl : j = x1 := Fin.ext hx1
    unfold blkOut
    refine rowOut_congr _ (funext fun k => ?_) rfl rfl rfl rfl (funext fun k => ?_) ?_ ?_
    · pointwise
      exact congrArg _ ((ix2_inj ..).2 ⟨Fin.ext (by dsimp only; omega), rfl⟩)
    · generalize hB : k0_pay11 (F := Ideal) _ _ _ = B
      refine Eq.trans (b := B (ix2 ⟨1024 * t.val + r.val, by have := lt_of_lt_of_eq t.isLt N_0; omega⟩ k)) ?_ (congrFun hB.symm _)
      pointwise
      exact congrArg B ((ix2_inj ..).2 ⟨Fin.ext (by dsimp only; rw [off1_0]; omega), Fin.ext (by dsimp only; rw [off1_0']; omega)⟩)
    · pointwise
      exact congrArg _ ((ix2_inj ..).2 ⟨Fin.ext (by dsimp only; omega), rfl⟩)
    · generalize k0_pay12 (F := Ideal) = B
      pointwise
      exact congrArg _ ((ix2_inj ..).2 ⟨Fin.ext (by dsimp only; rw [off2_0]; omega), Fin.ext (by dsimp only; rw [off2_0']; first | rfl | omega)⟩)

/-- The first point fills the tables. -/
theorem fill (c : Dev nD) (t : Fin cfg0.N) (h : t.val % 16 = 0) :
    (outsAt0 m c t.val t.isLt).2 = (k0_pay5 (iblk m c 4 t) (iblk m c 2 t), k0_pay7 (k0_pay6 (iblk m c 4 t) (iblk m c 2 t)),
      k0_pay3 (iblk m c 5 t), k0_pay11 (F := Ideal) k0_pay8 k0_pay9 k0_pay10, k0_pay12 (F := Ideal)) := by
  refine Prod.ext ?_ (Prod.ext ?_ (Prod.ext ?_ (Prod.ext ?_ ?_))) <;> rw [outsAt0_A m c t h] <;> frame_out <;> rfl

/-- A later point leaves them. -/
theorem carry (c : Dev nD) (t : Fin cfg0.N) (h : ¬ t.val % 16 = 0) :
    (outsAt0 m c t.val t.isLt).2 = (outsAt0 m c (t.val - 1) (by omega)).2 := by
  rw [outsAt0_B m c t h]
  rfl

end Cert.KernelIdeal.Tok

end
-- ==== Proof.Out.lean ====
/-
The array the kernel returns, as one function of its arguments.
-/
module

public import proofs.«01_k».proof.Proof.Gen.KernelIdeal.Value
public import Idealize.ShloMosaic.Lib.Pipeline.ValueKit
public import Idealize.ShloMosaic.Lib.Pointwise
public import proofs.«01_k».proof.Proof.Points

@[expose] public section

set_option maxRecDepth 16384

noncomputable section

open Idealize.ShloMosaic Idealize.ShloMosaic.TcCoe Idealize.SL.Sem
open Idealize.ShloMosaic.Pipeline (Dat)

namespace Cert.KernelIdeal.Tok

open Cert.KernelIdeal Cert.KernelIdeal.Gen

/-- The deviation of a feature. -/
def devOf (var : FVec Ideal S2048 .f32) (k : Fin 2048) : EReal := Ideal.sqrt (var (ix1 k)) + Ideal.ofBits .f32 0x322BCC77#32

/-- An attractor over its length; the thirty are numbered codebook by codebook. -/
def unitOf (a : FVec Ideal S3x10x2048 .f32) (c : Fin 30) (k : Fin 2048) : EReal :=
  a (ix3 ⟨c.val / 10, by omega⟩ ⟨c.val % 10, by omega⟩ k)
    * Ideal.div 1 (max (Ideal.sqrt (∑ l, a (ix3 ⟨c.val / 10, by omega⟩ ⟨c.val % 10, by omega⟩ l)
        * a (ix3 ⟨c.val / 10, by omega⟩ ⟨c.val % 10, by omega⟩ l))) (Ideal.ofBits .f32 0x2B8CBCCC#32))

/-- The output of row `R` at feature `j`: token `R % 4096` of sequence `R / 4096`. -/
def tokenOut (x : FVec Ideal S4x4096x2048 .f32) (ids : IVec S4x4096 32) (a : FVec Ideal S3x10x2048 .f32) (mean var : FVec Ideal S2048 .f32)
    (R : Fin 16384) (j : Fin 2048) : EReal :=
  rowOut (fun k => x (ix3 ⟨R.val / 4096, by omega⟩ ⟨R.val % 4096, by omega⟩ k)) (fun k => mean (ix1 k))
    (fun k => Ideal.div 1 (devOf var k) * Ideal.div 1 (devOf var k)) (fun c k => unitOf a c k * Ideal.div 1 (devOf var k))
    (fun c k => unitOf a c k * devOf var k) (fun c => k0_pay11 (F := Ideal) k0_pay8 k0_pay9 k0_pay10 (ix2 R c))
    (ids (ix2 ⟨R.val / 4096, by omega⟩ ⟨R.val % 4096, by omega⟩)) (k0_pay12 (F := Ideal) (ix2 R 0)) j

variable (m : (ℓ : Loc nD τ sig) → Buf (Elt Ideal) ℓ)

/-! ## The blocks of the arguments -/

/-- The block each window shows at a grid point. -/
theorem idx_val : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

/-- The block of hidden states, read off the argument. -/
theorem blk0 (c : Dev nD) (t : Fin cfg0.N) (r : Fin 1024) (k : Fin 2048) :
    (show FVec Ideal S1024x2048 .f32 from iblk m c 0 t) (ix2 r k)
      = (show FVec Ideal S4x4096x2048 .f32 from m ((c : Thread nD τ).loc main_arg0))
          (ix3 ⟨(1024 * t.val + r.val) / 4096, by have := lt_of_lt_of_eq t.isLt N_0; omega⟩ ⟨(1024 * t.val + r.val) % 4096, by omega⟩ k) := by
  blk_point [iblk, V, idx_val t]
/-- The block of identities, read off the argument. -/
theorem blk1 (c : Dev nD) (t : Fin cfg0.N) (r : Fin 1024) :
    (show IVec S1024x1 32 from iblk m c 1 t) (ix2 r 0)
      = (show IVec S4x4096 32 from m ((c : Thread nD τ).loc main_arg1))
          (ix2 ⟨(1024 * t.val + r.val) / 4096, by have := lt_of_lt_of_eq t.isLt N_0; omega⟩ ⟨(1024 * t.val + r.val) % 4096, by omega⟩) := by
  blk_point [iblk, V, idx_val t]
/-- The block of attractors, read off the argument. -/
theorem blk2 (c : Dev nD) (t : Fin cfg0.N) (r : Fin 30) (k : Fin 2048) :
    (show FVec Ideal S30x2048 .f32 from iblk m c 2 t) (ix2 r k)
      = (show FVec Ideal S3x10x2048 .f32 from m ((c : Thread nD τ).loc main_arg2)) (ix3 ⟨r.val / 10, by omega⟩ ⟨r.val % 10, by omega⟩ k) := by
  blk_point [iblk, V, idx_val t]
/-- The block of the mean, read off the argument. -/
theorem blk3 (c : Dev nD) (t : Fin cfg0.N) (k : Fin 2048) :
    (show FVec Ideal S1x2048 .f32 from iblk m c 3 t) (ix2 0 k)
      = (show FVec Ideal S2048 .f32 from m ((c : Thread nD τ).loc main_arg3)) (ix1 k) := by
  blk_point [iblk, V, idx_val t]
/-- The block of the variance as a row, read off the argument. -/
theorem blk4 (c : Dev nD) (t : Fin cfg0.N) (k : Fin 2048) :
    (show FVec Ideal S1x2048 .f32 from iblk m c 4 t) (ix2 0 k)
      = (show FVec Ideal S2048 .f32 from m ((c : Thread nD τ).loc main_arg4)) (ix1 k) := by
  blk_point [iblk, V, idx_val t]
/-- The block of the variance as a column, read off the argument. -/
theorem blk5 (c : Dev nD) (t : Fin cfg0.N) (k : Fin 2048) :
    (show FVec Ideal S2048x1 .f32 from iblk m c 5 t) (ix2 k 0)
      = (show FVec Ideal S2048 .f32 from m ((c : Thread nD τ).loc main_arg4)) (ix1 k) := by
  blk_point [iblk, V, idx_val t]

/-! ## The tables at every point -/

/-- After any point the scratch holds what the first point filled. -/
theorem tables (c : Dev nD) : ∀ (n : ℕ) (h : n < cfg0.N),
    (outsAt0 m c n h).2 = (outsAt0 m c 0 (Nat.lt_of_le_of_lt (Nat.zero_le _) h)).2
  | 0, _ => rfl
  | n + 1, h => by
    have hN : cfg0.N = 16 := N_0
    exact (carry m c ⟨n + 1, h⟩ (by dsimp only; omega)).trans (tables c n (Nat.lt_of_succ_lt h))

/-- A block's function over the filled tables is the token's. -/
theorem blkOut_eq (c : Dev nD) (t t' : Fin cfg0.N) (r : Fin 1024) (j : Fin 2048) :
    blkOut (iblk m c 0 t) (iblk m c 1 t) (iblk m c 3 t) (k0_pay5 (iblk m c 4 t') (iblk m c 2 t'))
          (k0_pay7 (k0_pay6 (iblk m c 4 t') (iblk m c 2 t'))) (k0_pay3 (iblk m c 5 t')) (k0_pay11 k0_pay8 k0_pay9 k0_pay10) k0_pay12
          ⟨t.val, lt_of_lt_of_eq t.isLt N_0⟩ r j
      = tokenOut (m ((c : Thread nD τ).loc main_arg0)) (m ((c : Thread nD τ).loc main_arg1)) (m ((c : Thread nD τ).loc main_arg2))
          (m ((c : Thread nD τ).loc main_arg3)) (m ((c : Thread nD τ).loc main_arg4))
          ⟨1024 * t.val + r.val, by have := lt_of_lt_of_eq t.isLt N_0; omega⟩ j := by
  have h4 : ∀ c' k, k0_pay4 (F := Ideal) (iblk m c 2 t') (ix2 c' k) = unitOf (m ((c : Thread nD τ).loc main_arg2)) c' k := fun c' k => by
    rw [pay4_apply]
    unfold unitOf
    exact congrArg₂ (· * ·) (blk2 m c t' c' k) (congrArg (fun s => Ideal.div 1 (max (Ideal.sqrt s) _))
      (Finset.sum_congr rfl fun l _ => congrArg₂ (· * ·) (blk2 m c t' c' l) (blk2 m c t' c' l)))
  have hd : ∀ k, Ideal.sqrt ((show FVec Ideal S1x2048 .f32 from iblk m c 4 t') (ix2 0 k)) + Ideal.ofBits .f32 0x322BCC77#32
      = devOf (m ((c : Thread nD τ).loc main_arg4)) k := fun k => congrArg (fun s => Ideal.sqrt s + _) (blk4 m c t' k)
  have hd' : ∀ k, Ideal.sqrt ((show FVec Ideal S2048x1 .f32 from iblk m c 5 t') (ix2 k 0)) + Ideal.ofBits .f32 0x322BCC77#32
      = devOf (m ((c : Thread nD τ).loc main_arg4)) k := fun k => congrArg (fun s => Ideal.sqrt s + _) (blk5 m c t' k)
  unfold blkOut tokenOut
  refine rowOut_congr _ (funext fun k => blk0 m c t r k) (funext fun k => blk3 m c t k) (funext fun k => ?_)
    (funext fun c' => funext fun k => ?_) (funext fun c' => funext fun k => ?_) rfl (blk1 m c t r) rfl
  · exact (pay3_apply _ k).trans (congrArg₂ (· * ·) (congrArg (Ideal.div 1) (hd' k)) (congrArg (Ideal.div 1) (hd' k)))
  · exact (pay5_apply _ _ c' k).trans (congrArg₂ (· * ·) (h4 c' k) (congrArg (Ideal.div 1) (hd k)))
  · exact (pay7_apply _ _ c' k).trans (congrArg₂ (· * ·) (h4 c' k) (hd k))

/-- What each point stores. -/
theorem point (c : Dev nD) (t : Fin cfg0.N) (r : Fin 1024) (j : Fin 2048) :
    (outsAt0 m c t.val t.isLt).1 (ix2 r j)
      = tokenOut (m ((c : Thread nD τ).loc main_arg0)) (m ((c : Thread nD τ).loc main_arg1)) (m ((c : Thread nD τ).loc main_arg2))
          (m ((c : Thread nD τ).loc main_arg3)) (m ((c : Thread nD τ).loc main_arg4))
          ⟨1024 * t.val + r.val, by have := lt_of_lt_of_eq t.isLt N_0; omega⟩ j := by
  by_cases h : t.val % 16 = 0
  · exact (point_A m c t h r j).trans (blkOut_eq m c t t r j)
  · have hN : cfg0.N = 16 := N_0
    have e := (tables m c (t.val - 1) (by omega)).trans (fill m c ⟨0, by omega⟩ (by rfl))
    refine (point_B m c t h r j).trans ?_
    rw [e]
    exact blkOut_eq m c t ⟨0, by omega⟩ r j

/-- The array the kernel returns. -/
def result (x : FVec Ideal S4x4096x2048 .f32) (ids : IVec S4x4096 32) (a : FVec Ideal S3x10x2048 .f32) (mean var : FVec Ideal S2048 .f32) :
    FVec Ideal S16384x2048 .f32 := fun i => tokenOut x ids a mean var (i 0) (i 1)

/-- After the last grid point the result array holds `result` of the arguments. -/
theorem final (c : Dev nD) : (dats m 0 c).arrAt 6 (cfgs 0).N
    = result (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6]
  idx_vars y
  refine (point m c t y0 y1).trans ?_
  unfold result
  refine congrArg₂ (tokenOut _ _ _ _ _) (Fin.ext ?_) (Fin.ext ?_)
  · blk_simp [idx_val t]
    show 1024 * t.val + y0.val = t.val * 1024 + y0.val
    omega
  · blk_simp [idx_val t]

/-- Every run of the kernel ends with its result at `result` of the arguments, and the arguments unchanged. -/
theorem run (ρ : Dev nD → PrngReg) :
    θ_run (defs (F := Ideal)) (onTc (τ := τ) (main (F := Ideal))) ⟨m, fun _ => 0, ρ⟩ fun r => ∀ c : Dev nD,
      r.2.mem ((c : Thread nD τ).loc main_v0)
        = result (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Cert.KernelIdeal.Value.run_blocks m ρ)

end Cert.KernelIdeal.Tok

end
-- ==== Proof.KerVal.lean ====
/-
The kernel's result in real numbers.
-/
module

public import proofs.«01_k».proof.Proof.Reals
public import proofs.«01_k».proof.Proof.Tables
public import proofs.«01_k».proof.Proof.Out

@[expose] public section

noncomputable section

open Idealize.ShloMosaic

namespace Cert.KernelIdeal.Tok

open Cert.KernelIdeal Cert.KernelIdeal.Gen Cert.Tok

variable {x : FVec Ideal S4x4096x2048 .f32} {ids : IVec S4x4096 32} {a : FVec Ideal S3x10x2048 .f32} {mean var : FVec Ideal S2048 .f32}
  {X : Fin 4 → Fin 4096 → Fin 2048 → ℝ} {A : Fin 3 → Fin 10 → Fin 2048 → ℝ} {M V : Fin 2048 → ℝ}

/-- Attractor number `c` of the thirty. -/
def attr (A : Fin 3 → Fin 10 → Fin 2048 → ℝ) (c : Fin 30) : Fin 2048 → ℝ := A ⟨c.val / 10, by omega⟩ ⟨c.val % 10, by omega⟩

/-- A deviation is the real one. -/
theorem devOf_real (g : General x ids a mean var X A M V) (k : Fin 2048) : devOf var k = ((dev V k : ℝ) : EReal) := by
  unfold devOf dev
  rw [g.hv, word_eps, coe_sqrt (g.var_nonneg k), ← EReal.coe_add]

/-- Its reciprocal is the real one. -/
theorem invDev_real (g : General x ids a mean var X A M V) (k : Fin 2048) :
    Ideal.div 1 (devOf var k) = ((1 / dev V k : ℝ) : EReal) := by
  rw [devOf_real g, coe_one_div (dev_pos V k).ne']

/-- An attractor has positive length. -/
theorem attr_pos (g : General x ids a mean var X A M V) (c : Fin 30) : 0 < √(∑ l, attr A c l * attr A c l) :=
  lt_of_lt_of_le tiny_pos (g.attractor _ _)

/-- An attractor over its length is the real one. -/
theorem unitOf_real (g : General x ids a mean var X A M V) (c : Fin 30) (k : Fin 2048) :
    unitOf a c k = ((unit (attr A c) k : ℝ) : EReal) := by
  have h := attr_pos g c
  have h' : tiny ≤ √(∑ l, attr A c l * attr A c l) := g.attractor _ _
  unfold unitOf
  simp only [g.ha]
  change ((attr A c k : ℝ) : EReal) * Ideal.div 1 (max (Ideal.sqrt (∑ l, ((attr A c l : ℝ) : EReal) * ((attr A c l : ℝ) : EReal))) _) = _
  simp only [← EReal.coe_mul]
  rw [coe_sum, coe_sqrt (Finset.sum_nonneg fun l _ => mul_self_nonneg _), word_tiny, coe_max, max_eq_left h', coe_one_div h.ne',
    ← EReal.coe_mul]
  unfold unit
  rw [mul_one_div]

/-- A whitened row has positive squared length. -/
theorem len_pos (g : General x ids a mean var X A M V) (b : Fin 4) (s : Fin 4096) : 0 < lenSq (X b s) M V :=
  lt_of_lt_of_le tinySq_pos (g.token b s)

/-- The reciprocal length the kernel computes. -/
theorem rinv_real (g : General x ids a mean var X A M V) (b : Fin 4) (s : Fin 4096) :
    rinvOf (fun k => x (ix3 b s k)) (fun k => mean (ix1 k)) (fun k => Ideal.div 1 (devOf var k) * Ideal.div 1 (devOf var k))
      = (((√(lenSq (X b s) M V))⁻¹ : ℝ) : EReal) := by
  unfold rinvOf
  simp only [g.hx, g.hm, invDev_real g, ← EReal.coe_mul, ← EReal.coe_sub]
  have e : ∑ k, (M k - X b s k) * (M k - X b s k) * (1 / dev V k * (1 / dev V k)) = lenSq (X b s) M V := by
    unfold lenSq white
    refine Finset.sum_congr rfl fun k _ => ?_
    have := (dev_pos V k).ne'
    field_simp
    ring
  rw [coe_sum, e, word_tinySq, coe_max, max_eq_left (g.token b s), coe_rsqrt (len_pos g b s)]

/-- The products the kernel masks: the similarity, scaled by the length and negated. -/
theorem dot_real (g : General x ids a mean var X A M V) (b : Fin 4) (s : Fin 4096) (c : Fin 30) :
    ∑ k, (mean (ix1 k) - x (ix3 b s k)) * (unitOf a c k * Ideal.div 1 (devOf var k))
      = ((-(√(lenSq (X b s) M V) * sim (X b s) M V (attr A c)) : ℝ) : EReal) := by
  simp only [g.hx, g.hm, invDev_real g, unitOf_real g, ← EReal.coe_mul, ← EReal.coe_sub]
  rw [coe_sum]
  refine congrArg _ ?_
  unfold sim
  rw [Finset.mul_sum, ← Finset.sum_neg_distrib]
  refine Finset.sum_congr rfl fun k _ => ?_
  have h1 := (dev_pos V k).ne'
  have h2 := (Real.sqrt_pos.2 (len_pos g b s)).ne'
  unfold dir white
  field_simp
  ring

/-- The kernel's output of a token is the real one, pulled to the attractor of its codebook that is the most similar. -/
theorem tokenOut_real (g : General x ids a mean var X A M V) (R : Fin 16384) (j : Fin 2048) (b : Fin 4) (s : Fin 4096)
    (hR : R.val = 4096 * b.val + s.val) (c : Fin 10)
    (hc : ∀ e, sim (X b s) M V (A (book s.val) e) ≤ sim (X b s) M V (A (book s.val) c)) :
    tokenOut x ids a mean var R j
      = ((outReal (X b s) M V (strength (ids (ix2 b s)) s.val) (A (book s.val) c) j : ℝ) : EReal) := by
  have hb : (⟨R.val / 4096, by omega⟩ : Fin 4) = b := Fin.ext (by dsimp only; omega)
  have hs : (⟨R.val % 4096, by omega⟩ : Fin 4096) = s := Fin.ext (by dsimp only; omega)
  have hs' : R.val % 4096 = s.val := by omega
  have hp := Real.sqrt_pos.2 (len_pos g b s)
  -- the attractor's number among the thirty
  let c0 : Fin 30 := ⟨10 * (book s.val).val + c.val, by omega⟩
  have q0 : c0.val / 10 = (book s.val).val := by show (10 * (book s.val).val + c.val) / 10 = _; omega
  have a0 : attr A c0 = A (book s.val) c := by
    unfold attr
    exact congrArg₂ A (Fin.ext q0) (Fin.ext (by show (10 * (book s.val).val + c.val) % 10 = _; omega))
  have ain : ∀ e : Fin 30, e.val / 10 = (book s.val).val → attr A e = A (book s.val) ⟨e.val % 10, by omega⟩ := fun e he => by
    unfold attr
    exact congrArg₂ A (Fin.ext he) rfl
  unfold tokenOut
  rw [hb, hs]
  set x' : Fin 2048 → EReal := fun k => x (ix3 b s k) with hx'
  set m' : Fin 2048 → EReal := fun k => mean (ix1 k) with hm'
  set bh : Fin 30 → Fin 2048 → EReal := fun c k => unitOf a c k * Ideal.div 1 (devOf var k) with hbh
  set bi : Fin 30 → EReal := fun c => k0_pay11 (F := Ideal) k0_pay8 k0_pay9 k0_pay10 (ix2 R c) with hbi
  have hmask : ∀ e : Fin 30, maskedOf x' m' bh bi e
      = if e.val / 10 = (book s.val).val then ((-(√(lenSq (X b s) M V) * sim (X b s) M V (attr A e)) : ℝ) : EReal) else ⊤ := fun e => by
    unfold maskedOf
    rw [hx', hm', hbh, hbi]
    dsimp only
    rw [dot_real g, offsets_apply, hs']
    split_ifs
    · rw [add_zero]
    · exact EReal.coe_add_top _
  have hmin : minOf x' m' bh bi = ((-(√(lenSq (X b s) M V) * sim (X b s) M V (attr A c0)) : ℝ) : EReal) := by
    unfold minOf
    rw [word_top]
    refine le_antisymm ?_ ?_
    · refine (Finset.inf_le (f := maskedOf x' m' bh bi) (Finset.mem_univ c0)).trans ?_
      rw [hmask, if_pos q0]
    · refine Finset.le_inf (f := maskedOf x' m' bh bi) fun e _ => ?_
      rw [hmask]
      split_ifs with he
      · rw [EReal.coe_le_coe_iff, a0, ain e he]
        exact neg_le_neg (mul_le_mul_of_nonneg_left (hc _) hp.le)
      · exact le_top
  have hpick : ∀ e : Fin 30, maskedOf x' m' bh bi e = minOf x' m' bh bi ↔ e = c0 := fun e => by
    rw [hmask, hmin]
    constructor
    · intro h
      by_cases he : e.val / 10 = (book s.val).val
      · rw [if_pos he, EReal.coe_eq_coe_iff, neg_inj, mul_right_inj' hp.ne', a0, ain e he] at h
        have := congrArg Fin.val (g.unique b s ⟨e.val % 10, by omega⟩ c (fun i => (hc i).trans h.ge) hc)
        refine Fin.ext ?_
        show e.val = 10 * (book s.val).val + c.val
        dsimp only at this
        omega
      · rw [if_neg he] at h
        exact absurd h.symm (EReal.coe_ne_top _)
    · rintro rfl
      rw [if_pos q0]
  have hal : alphaOf (ids (ix2 b s)) (k0_pay12 (F := Ideal) (ix2 R 0)) = ((strength (ids (ix2 b s)) s.val : ℝ) : EReal) := by
    rw [alphaOf_eq R _ (g.vocab b s), hs']
  have hri := rinv_real g b s
  have hstep : stepOf ((strength (ids (ix2 b s)) s.val : ℝ) : EReal) (minOf x' m' bh bi) (((√(lenSq (X b s) M V))⁻¹ : ℝ) : EReal)
      = ((pullBy (X b s) M V (strength (ids (ix2 b s)) s.val) (attr A c0) : ℝ) : EReal) := by
    rw [pullBy_eq _ _ _ _ _ (strength_ge _ _) (strength_le _ _) (attr_pos g c0) (len_pos g b s)]
    unfold stepOf
    rw [hmin, word_half, word_two, word_tinySq, ← EReal.coe_zero, ← EReal.coe_sub, ← EReal.coe_mul, ← EReal.coe_mul, ← EReal.coe_sub, coe_max,
      coe_rsqrt (lt_max_of_lt_right tinySq_pos), ← EReal.coe_mul, coe_min]
    rw [show (0 - -(√(lenSq (X b s) M V) * sim (X b s) M V (attr A c0))) * (√(lenSq (X b s) M V))⁻¹ = sim (X b s) M V (attr A c0) by
      field_simp; ring]
  unfold rowOut
  rw [hal, hri, hstep, ← outReal_eq, ← a0]
  rw [Finset.sum_eq_single c0 (fun e _ he => by rw [if_neg (fun h => he ((hpick e).1 h)), zero_mul])
    (fun h => absurd (Finset.mem_univ _) h), if_pos ((hpick c0).2 rfl)]
  rw [hx', hm']
  dsimp only
  rw [unitOf_real g, devOf_real g, g.hx, g.hm, ← EReal.coe_one]
  simp only [← EReal.coe_mul, ← EReal.coe_sub, ← EReal.coe_add]

end Cert.KernelIdeal.Tok

end
-- ==== Proof.Gathers.lean ====
/-
The two gathers and the arg-max of the reference, read at an index.
-/
module

public import Idealize.ShloMosaic.Lib.Pointwise
public import proofs.«01_k».proof.Proof.RefRun

@[expose] public section

set_option maxRecDepth 16384

noncomputable section

open Idealize.ShloMosaic

namespace Cert.ReferenceIdeal.At

open Cert.ReferenceIdeal Cert.ReferenceIdeal.Gen Cert.ReferenceIdeal.Run

/-- The gather along the codebook axis reads, at batch `b`, position `s` and attractor `c`, the codebook its index array
    names there, read signed and clamped into the three. -/
theorem gather_along {α : Type} (x : S4x3x4096x10.Idx → α) (idx : IVec S4x1x4096x10x1 32) (b : Fin 4) (s : Fin 4096) (c : Fin 10) :
    Host.gather gather_S4x3x4096x10_S4x1x4096x10x1_S4x1x4096x10_n_1_023_023_1_4_1111 x idx (ix4 b 0 s c)
      = x (ix4 b ⟨min (idx (ix5 b 0 s c 0)).toInt.toNat 2, by omega⟩ s c) := by
  unfold Host.gather
  congr 1
  funext a
  refine Fin.ext ?_
  show GatherDims.start _ (ix4 b 0 s c) idx a + GatherDims.batchCoord _ (ix4 b 0 s c) a + GatherDims.offCoord _ (ix4 b 0 s c) a = _
  rcases (by decide : ∀ a : Fin 4, a = 0 ∨ a = 1 ∨ a = 2 ∨ a = 3) a with rfl|rfl|rfl|rfl
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide)]
    unfold GatherDims.start
    rw [dif_pos (by decide)]
    have e : ∀ h, GatherDims.siIdx gather_S4x3x4096x10_S4x1x4096x10x1_S4x1x4096x10_n_1_023_023_1_4_1111 (ix4 b 0 s c)
        ⟨List.idxOf (1 : Fin 4) [1], h⟩ = ix5 b 0 s c 0 := fun h => by
      funext q
      refine Fin.ext ?_
      match q with
      | ⟨0, _⟩ => rfl
      | ⟨1, _⟩ => rfl
      | ⟨2, _⟩ => rfl
      | ⟨3, _⟩ => rfl
      | ⟨4, _⟩ => rfl
    exact congrArg (fun i => min (idx i).toInt.toNat 2) (e _)
  · rw [GatherDims.start_batching _ _ _ _ (by decide), GatherDims.offCoord_eq_zero _ _ _ (by decide), Nat.zero_add, Nat.add_zero]
    unfold GatherDims.batchCoord
    rw [dif_pos (by decide)]
    rfl
  · rw [GatherDims.start_batching _ _ _ _ (by decide), GatherDims.offCoord_eq_zero _ _ _ (by decide), Nat.zero_add, Nat.add_zero]
    unfold GatherDims.batchCoord
    rw [dif_pos (by decide)]
    rfl

/-- The gather of whole attractors reads, at batch `b`, position `s` and feature `k`, the attractor its two index entries
    name there, each read signed and clamped. -/
theorem gather_pair {α : Type} (x : S3x10x2048.Idx → α) (idx : IVec S4x4096x2 32) (b : Fin 4) (s : Fin 4096) (k : Fin 2048) :
    Host.gather gather_S3x10x2048_S4x4096x2_S4x4096x2048_2_01_n_n_01_2_112048 x idx (ix3 b s k)
      = x (ix3 ⟨min (idx (ix3 b s 0)).toInt.toNat 2, by omega⟩ ⟨min (idx (ix3 b s 1)).toInt.toNat 9, by omega⟩ k) := by
  unfold Host.gather
  congr 1
  funext a
  refine Fin.ext ?_
  show GatherDims.start _ (ix3 b s k) idx a + GatherDims.batchCoord _ (ix3 b s k) a + GatherDims.offCoord _ (ix3 b s k) a = _
  rcases (by decide : ∀ a : Fin 3, a = 0 ∨ a = 1 ∨ a = 2) a with rfl|rfl|rfl
  · rw [GatherDims.batchCoord_eq_zero _ _ _ (by decide), GatherDims.offCoord_eq_zero _ _ _ (by decide)]
    unfold GatherDims.start
    rw [dif_pos (by decide)]
    have e : ∀ h, GatherDims.siIdx gather_S3x10x2048_S4x4096x2_S4x4096x2048_2_01_n_n_01_2_112048 (ix3 b s k)
        ⟨List.idxOf (0 : Fin 3) [0, 1], h⟩ = ix3 b s 0 := fun h => by
      funext q
      refine Fin.ext ?_
      match q with
      | ⟨0, _⟩ => rfl
      | ⟨1, _⟩ => rfl
      | ⟨2, _⟩ => rfl
    exact congrArg (fun i => min (idx i).toInt.toNat 2) (e _)
  · rw [GatherDims.batchCoord_eq_zero _ _ _ (by decide), GatherDims.offCoord_eq_zero _ _ _ (by decide)]
    unfold GatherDims.start
    rw [dif_pos (by decide)]
    have e : ∀ h, GatherDims.siIdx gather_S3x10x2048_S4x4096x2_S4x4096x2048_2_01_n_n_01_2_112048 (ix3 b s k)
        ⟨List.idxOf (1 : Fin 3) [0, 1], h⟩ = ix3 b s 1 := fun h => by
      funext q
      refine Fin.ext ?_
      match q with
      | ⟨0, _⟩ => rfl
      | ⟨1, _⟩ => rfl
      | ⟨2, _⟩ => rfl
    exact congrArg (fun i => min (idx i).toInt.toNat 9) (e _)
  · rw [GatherDims.batchCoord_eq_zero _ _ _ (by decide)]
    unfold GatherDims.start
    rw [dif_neg (by decide)]
    exact (Nat.zero_add _)

end Cert.ReferenceIdeal.At

end
-- ==== Proof.RefAt.lean ====
/-
The reference's stages read at an index.
-/
module

public import Idealize.ShloMosaic.Lib.Pointwise
public import proofs.«01_k».proof.Proof.Gathers
public import proofs.«01_k».proof.Proof.Consts

@[expose] public section

set_option maxRecDepth 16384

noncomputable section

open Idealize.ShloMosaic

namespace Cert.ReferenceIdeal.At

open Cert.ReferenceIdeal Cert.ReferenceIdeal.Gen Cert.ReferenceIdeal.Run Cert.Tok

/-! ## Positions and markers -/

/-- The position of a token as a share of the length. -/
theorem relPos_apply (s : Fin 4096) : relPos (F := Ideal) (ix1 s) = ((s.val / 4096 : ℝ) : EReal) := by
  unfold relPos
  pointwise
  rw [word_len, Ideal.div_coe (by norm_num)]
  have h : FloatOps.sitofp (F := Ideal) .f32 (BitVec.ofNat 32 s.val) = ((s.val : ℝ) : EReal) := by
    show (((BitVec.ofNat 32 s.val).toInt : ℝ) : EReal) = _
    rw [BitVec.toInt_eq_toNat_of_lt (by rw [BitVec.toNat_ofNat]; omega), BitVec.toNat_ofNat, Nat.mod_eq_of_lt (by omega)]
    simp
  rw [h, ← EReal.coe_mul, mul_one_div]

/-- The codebook of a position. -/
theorem ptVal_apply (s : Fin 4096) : ptVal (F := Ideal) (ix1 s) = BitVec.ofNat 32 (book s.val).val := by
  unfold ptVal posType
  pointwise
  rw [relPos_apply, word_base, word_late]
  simp only [EReal.coe_lt_coe_iff]
  have h1 : (s.val / 4096 : ℝ) < base ↔ s.val ≤ 1228 := by
    unfold base
    rw [div_lt_div_iff₀ (by norm_num) (by norm_num)]
    norm_cast
    omega
  have h2 : (s.val / 4096 : ℝ) < 11744051 / 16777216 ↔ s.val ≤ 2867 := by
    rw [div_lt_div_iff₀ (by norm_num) (by norm_num)]
    norm_cast
    omega
  simp only [h1, h2]
  unfold book
  split_ifs <;> rfl

/-- A fold of "or" over bits that decide propositions is set exactly when one of them holds. -/
theorem fold_ori {ι : Type} (S : Finset ι) (f : ι → BitVec 1) :
    Finset.fold IntOp.ori (0#1) f S = 1#1 ↔ ∃ i ∈ S, f i = 1#1 := by
  classical
  induction S using Finset.induction_on with
  | empty => simp
  | insert a S h ih =>
    rw [Finset.fold_insert h, IntOp.ori_eq_one, ih]
    simp

/-- A token is a marker exactly when its identity is a multiple of 500. -/
theorem markers_apply (ids : IVec S4x4096 32) (b : Fin 4) (s : Fin 4096) (h : (ids (ix2 b s)).toNat < 32000) :
    markers ids (ix2 b s) = 1#1 ↔ (ids (ix2 b s)).toNat % 500 = 0 := by
  unfold markers
  pointwise
  have e : (ix2 ⟨(b.val * 4096 + s.val) / 4096, by omega⟩ ⟨(b.val * 4096 + s.val) % 4096, by omega⟩ : S4x4096.Idx) = ix2 b s :=
    (ix2_inj ..).2 ⟨Fin.ext (by dsimp only; omega), Fin.ext (by dsimp only; omega)⟩
  rw [fold_ori]
  have v : ∀ i : Fin 64, (IntOp.addi (0#32) (IntOp.muli (500#32) (BitVec.ofNat 32 i.val))).toNat = 500 * i.val :=
    by decide +kernel
  constructor
  · rintro ⟨i, -, hi⟩
    have := congrArg BitVec.toNat ((congrArg ids e).symm.trans (IntOp.cmpi_eq.1 hi))
    rw [v] at this
    omega
  · intro h0
    refine ⟨⟨(ids (ix2 b s)).toNat / 500, by omega⟩, Finset.mem_univ _, IntOp.cmpi_eq.2 ((congrArg ids e).trans (BitVec.eq_of_toNat_eq ?_))⟩
    rw [v]
    dsimp only
    omega

/-- The factor on the base strength, times the base, is the strength. -/
theorem scale_apply (ids : IVec S4x4096 32) (b : Fin 4) (s : Fin 4096) (h : (ids (ix2 b s)).toNat < 32000) :
    Ideal.ofBits .f32 0x3E99999A#32 * scaleVal (F := Ideal) ids (ix2 b s) = ((strength (ids (ix2 b s)) s.val : ℝ) : EReal) := by
  have e : scaleVal (F := Ideal) ids (ix2 b s) = if (ids (ix2 b s)).toNat % 500 = 0 then ((5 : ℝ) : EReal)
      else if 2868 ≤ s.val then ((2 : ℝ) : EReal) else ((1 : ℝ) : EReal) := by
    unfold scaleVal posScale mkVal
    rw [id_eq]
    pointwise
    rw [select_iff (markers_apply ids b s h), word_five, word_two, relPos_apply, word_late]
    simp only [EReal.coe_lt_coe_iff]
    have h2 : (11744051 / 16777216 : ℝ) < s.val / 4096 ↔ 2868 ≤ s.val := by
      rw [div_lt_div_iff₀ (by norm_num) (by norm_num)]
      norm_cast
      omega
    simp only [h2, EReal.coe_one]
  rw [e, word_base]
  unfold strength
  split_ifs <;> simp

/-! ## Whitened tokens, attractors, similarities -/

section
variable (x : FVec Ideal S4x4096x2048 .f32) (ids : IVec S4x4096 32) (a : FVec Ideal S3x10x2048 .f32) (mean var : FVec Ideal S2048 .f32)

/-- The deviation of a feature. -/
theorem stdVal_apply (k : Fin 2048) : stdVal (F := Ideal) var (ix1 k) = Ideal.sqrt (var (ix1 k)) + Ideal.ofBits .f32 0x322BCC77#32 := by
  unfold stdVal stdOf
  pointwise

/-- A whitened row at a feature. -/
theorem wVal_apply (b : Fin 4) (s : Fin 4096) (k : Fin 2048) :
    wVal x mean var (ix3 b s k) = Ideal.div (x (ix3 b s k) - mean (ix1 k)) (stdVal (F := Ideal) var (ix1 k)) := by
  unfold wVal whiten
  pointwise

/-- A whitened row over its length, at a feature. -/
theorem hVal_apply (b : Fin 4) (s : Fin 4096) (k : Fin 2048) :
    hVal x mean var (ix3 b s k) = Ideal.div (wVal x mean var (ix3 b s k))
      (max (Ideal.sqrt (∑ l, wVal x mean var (ix3 b s l) * wVal x mean var (ix3 b s l))) (Ideal.ofBits .f32 0x2B8CBCCC#32)) := by
  unfold hVal unitTokens
  pointwise

/-- An attractor over its length, at a feature. -/
theorem nVal_apply (t : Fin 3) (c : Fin 10) (k : Fin 2048) :
    nVal a (ix3 t c k) = Ideal.div (a (ix3 t c k))
      (max (Ideal.sqrt (∑ l, a (ix3 t c l) * a (ix3 t c l))) (Ideal.ofBits .f32 0x2B8CBCCC#32)) := by
  unfold nVal unitAttractors
  pointwise

/-- The similarity of a row with an attractor of any codebook. -/
theorem allVal_apply (b : Fin 4) (t : Fin 3) (s : Fin 4096) (c : Fin 10) :
    allVal x a mean var (ix4 b t s c) = ∑ k, nVal a (ix3 t c k) * hVal x mean var (ix3 b s k) := by
  unfold allVal simsAll
  pointwise

/-- An index below three, wrapped and clamped as the gathers do, is itself. -/
theorem wrap_three (p : BitVec 32) (t : Fin 3) (hp : p = BitVec.ofNat 32 t.val) :
    min (Scalar.select (IntOp.cmpi .slt p 0#32) (IntOp.addi p 3#32) p).toInt.toNat 2 = t.val := by
  subst hp
  revert t
  decide +kernel

/-- An index below ten, wrapped and clamped as the gathers do, is itself. -/
theorem wrap_ten (p : BitVec 32) (c : Fin 10) (hp : p = BitVec.ofNat 32 c.val) :
    min (Scalar.select (IntOp.cmpi .slt p 0#32) (IntOp.addi p 10#32) p).toInt.toNat 9 = c.val := by
  subst hp
  revert c
  decide +kernel

/-- An index below three passes the range check. -/
theorem check_three (p : BitVec 32) (t : Fin 3) (hp : p = BitVec.ofNat 32 t.val) :
    Finset.fold IntOp.andi (1#1) (fun _ : Fin 1 =>
      IntOp.andi (IntOp.cmpi .sge (Scalar.select (IntOp.cmpi .slt p 0#32) (IntOp.addi p 3#32) p) 0#32)
        (IntOp.cmpi .sle (Scalar.select (IntOp.cmpi .slt p 0#32) (IntOp.addi p 3#32) p) 2#32)) Finset.univ = 1#1 := by
  subst hp
  revert t
  decide +kernel

/-- Out of the similarities with all codebooks, those with the position's. -/
theorem simsVal_apply (b : Fin 4) (s : Fin 4096) (c : Fin 10) :
    simsVal x a mean var (ix3 b s c) = allVal x a mean var (ix4 b (book s.val) s c) := by
  unfold simsVal simsHere
  pointwise [gather_along, id_eq]
  refine (if_pos (check_three _ _ (ptVal_apply s))).trans ?_
  exact congrArg (fun q => allVal x a mean var (ix4 b q s c)) (Fin.ext (wrap_three _ _ (ptVal_apply s)))

/-- Where the best attractor's number is `c`, the one chosen is number `c` of the position's codebook. -/
theorem selVal_apply (b : Fin 4) (s : Fin 4096) (k : Fin 2048) (c : Fin 10)
    (hc : idxVal x a mean var (ix2 b s) = BitVec.ofNat 32 c.val) :
    selVal x a mean var (ix3 b s k) = nVal a (ix3 (book s.val) c k) := by
  unfold selVal chosen
  rw [gather_pair]
  pointwise
  exact congrArg₂ (fun q r => nVal a (ix3 q r k)) (Fin.ext (wrap_three _ _ (ptVal_apply s))) (Fin.ext (wrap_ten _ _ hc))

/-- The pull at a feature: the strength times the difference of the chosen attractor and the row's direction. -/
theorem dVal_apply (b : Fin 4) (s : Fin 4096) (k : Fin 2048) (h : (ids (ix2 b s)).toNat < 32000) :
    dVal x ids a mean var (ix3 b s k)
      = ((strength (ids (ix2 b s)) s.val : ℝ) : EReal) * (selVal x a mean var (ix3 b s k) - hVal x mean var (ix3 b s k)) := by
  rw [← scale_apply ids b s h]
  unfold dVal pull
  pointwise

/-- The result at a row and a feature. -/
theorem resVal_apply (R : Fin 16384) (j : Fin 2048) (b : Fin 4) (s : Fin 4096) (hR : R.val = 4096 * b.val + s.val) :
    resVal x ids a mean var (ix2 R j)
      = x (ix3 b s j) + dVal x ids a mean var (ix3 b s j)
          * min 1 (Ideal.div (Ideal.ofBits .f32 0x3F000000#32)
              (max (Ideal.sqrt (∑ k, dVal x ids a mean var (ix3 b s k) * dVal x ids a mean var (ix3 b s k))) (Ideal.ofBits .f32 0x2B8CBCCC#32)))
          * stdVal (F := Ideal) var (ix1 j) := by
  unfold resVal applied
  pointwise
  have hb : (⟨R.val / 4096, by omega⟩ : Fin 4) = b := Fin.ext (by dsimp only; omega)
  have hs : (⟨R.val % 4096, by omega⟩ : Fin 4096) = s := Fin.ext (by dsimp only; omega)
  exact congrArg₂ (fun b s => x (ix3 b s j) + dVal x ids a mean var (ix3 b s j)
          * min 1 (Ideal.div (Ideal.ofBits .f32 0x3F000000#32)
              (max (Ideal.sqrt (∑ k, dVal x ids a mean var (ix3 b s k) * dVal x ids a mean var (ix3 b s k))) (Ideal.ofBits .f32 0x2B8CBCCC#32)))
          * stdVal (F := Ideal) var (ix1 j)) hb hs

end

end Cert.ReferenceIdeal.At

end
-- ==== Proof.Argmax.lean ====
/-
The arg-max of the reference.
-/
module

public import Idealize.ShloMosaic.Lib.Pointwise
public import proofs.«01_k».proof.Proof.Gathers
public import proofs.«01_k».proof.Proof.Consts

@[expose] public section

set_option maxRecDepth 16384

noncomputable section

open Idealize.ShloMosaic

namespace Cert.ReferenceIdeal.At

open Cert.ReferenceIdeal Cert.ReferenceIdeal.Gen Cert.ReferenceIdeal.Run

/-- The arg-max body keeps one of its two pairs. -/
theorem argmax_pick (p q : Ideal .f32 × BitVec 32) :
    (reducer_argmax_f32_i32 (F := Ideal) p q = p ∨ reducer_argmax_f32_i32 (F := Ideal) p q = q)
      ∧ p.1 ≤ (reducer_argmax_f32_i32 (F := Ideal) p q).1 ∧ q.1 ≤ (reducer_argmax_f32_i32 (F := Ideal) p q).1 := by
  obtain ⟨u, i⟩ := p
  obtain ⟨v, k⟩ := q
  have h1 : FloatOps.cmpf (F := Ideal) .une u u = 0#1 := by
    show BitVec.ofBool (decide (u ≠ u)) = 0#1
    simp
  have h2 : FloatOps.cmpf (F := Ideal) .ogt u v = if v < u then 1#1 else 0#1 := by
    show BitVec.ofBool (decide (v < u)) = _
    split_ifs with h <;> simp [h]
  have h3 : FloatOps.cmpf (F := Ideal) .oeq u v = if u = v then 1#1 else 0#1 := by
    show BitVec.ofBool (decide (u = v)) = _
    split_ifs with h <;> simp [h]
  unfold reducer_argmax_f32_i32
  dsimp only
  rw [h1, h2, h3]
  by_cases hvu : v < u
  · rw [if_pos hvu, if_neg hvu.ne']
    rw [(by decide : IntOp.ori (1#1) (0#1) = 1#1),
      (by decide : ∀ w : BitVec 1, IntOp.ori (1#1) (IntOp.andi (0#1) w) = 1#1) (IntOp.cmpi .slt i k)]
    exact ⟨Or.inl rfl, le_rfl, hvu.le⟩
  · rw [if_neg hvu]
    by_cases he : u = v
    · rw [if_pos he]
      subst he
      refine ⟨?_, le_rfl, le_rfl⟩
      rcases (by decide : ∀ w : BitVec 1, w = 0#1 ∨ w = 1#1) (IntOp.cmpi .slt i k) with h | h <;> rw [h]
      · exact Or.inr rfl
      · exact Or.inl rfl
    · rw [if_neg he]
      exact ⟨Or.inr (by rcases (by decide : ∀ w : BitVec 1, w = 0#1 ∨ w = 1#1) (IntOp.cmpi .slt i k) with h | h <;> rw [h] <;> rfl),
        not_lt.1 hvu, le_rfl⟩

/-- A fold of the arg-max body ends at its start or at an entry of the list, and at a value no entry exceeds. -/
theorem argmax_fold (L : List (Ideal .f32 × BitVec 32)) (i : Ideal .f32 × BitVec 32) :
    (L.foldl reducer_argmax_f32_i32 i = i ∨ L.foldl reducer_argmax_f32_i32 i ∈ L)
      ∧ i.1 ≤ (L.foldl reducer_argmax_f32_i32 i).1 ∧ ∀ p ∈ L, p.1 ≤ (L.foldl reducer_argmax_f32_i32 i).1 := by
  induction L generalizing i with
  | nil => simp
  | cons q L ih =>
    obtain ⟨h1, h2, h3⟩ := ih (reducer_argmax_f32_i32 (F := Ideal) i q)
    obtain ⟨g1, g2, g3⟩ := argmax_pick i q
    rw [List.foldl_cons]
    refine ⟨?_, g2.trans h2, fun p hp => ?_⟩
    · rcases h1 with h1 | h1
      · rw [h1]
        rcases g1 with g1 | g1
        · exact Or.inl g1
        · exact Or.inr (by rw [g1]; exact List.mem_cons_self)
      · exact Or.inr (List.mem_cons_of_mem _ h1)
    · rcases List.mem_cons.1 hp with rfl | hp
      · exact g3.trans h2
      · exact h3 p hp

/-- The index of the nearest attractor names one whose similarity no other exceeds. -/
theorem bestIdx_spec (S : FVec Ideal S4x4096x10 .f32) (b : Fin 4) (s : Fin 4096) (hS : ∀ c, S (ix3 b s c) ≠ ⊥) :
    ∃ c : Fin 10, bestIdx S (ix2 b s) = BitVec.ofNat 32 c.val ∧ ∀ c', S (ix3 b s c') ≤ S (ix3 b s c) := by
  unfold bestIdx
  rw [Ideal.argReduce_eq_reduce2, Host.reduce2_eq_foldl_fiber]
  have hf : ∀ p, p ∈ Host.argReduceFiber S (iotaInDim S4x4096x10 32 2) reducesTo_S4x4096x10_S4x4096_d2 (ix2 b s)
      ↔ ∃ c : Fin 10, p = (S (ix3 b s c), BitVec.ofNat 32 c.val) := by
    intro p
    unfold Host.argReduceFiber
    rw [List.mem_map]
    constructor
    · rintro ⟨n, hn, rfl⟩
      obtain ⟨c, hc⟩ := (Shape.ReducesTo.fiber_r3_a2 reducesTo_S4x4096x10_S4x4096_d2 (ix2 b s) _).1 (of_decide_eq_true (List.mem_filter.1 hn).2)
      exact ⟨c, by rw [← hc]; rfl⟩
    · rintro ⟨c, rfl⟩
      refine ⟨S4x4096x10.rowMajor (ix3 b s c), List.mem_filter.2 ⟨List.mem_finRange _, decide_eq_true ?_⟩, ?_⟩
      · rw [Equiv.symm_apply_apply]
        exact (Shape.ReducesTo.fiber_r3_a2 reducesTo_S4x4096x10_S4x4096_d2 (ix2 b s) _).2 ⟨c, rfl⟩
      · rw [Equiv.symm_apply_apply]
        rfl
  obtain ⟨h1, -, h3⟩ := argmax_fold (Host.argReduceFiber S (iotaInDim S4x4096x10 32 2) reducesTo_S4x4096x10_S4x4096_d2 (ix2 b s))
    (constant (F := Ideal) S_ .f32 0xFF800000#32 (Shape.Idx.first h_S_), constantI S_ 32 0#32 (Shape.Idx.first h_S_))
  rcases h1 with h1 | h1
  · exfalso
    have := h3 _ ((hf _).2 ⟨0, rfl⟩)
    rw [h1] at this
    exact hS 0 (le_bot_iff.1 (this.trans_eq Cert.Tok.word_bot))
  · obtain ⟨c, hc⟩ := (hf _).1 h1
    refine ⟨c, congrArg Prod.snd hc, fun c' => ?_⟩
    exact (h3 _ ((hf _).2 ⟨c', rfl⟩)).trans_eq (congrArg Prod.fst hc)
end Cert.ReferenceIdeal.At

end
-- ==== Proof.RefVal.lean ====
/-
The reference's result in real numbers.
-/
module

public import proofs.«01_k».proof.Proof.Reals
public import proofs.«01_k».proof.Proof.RefAt
public import proofs.«01_k».proof.Proof.Argmax

@[expose] public section

noncomputable section

open Idealize.ShloMosaic

namespace Cert.ReferenceIdeal.At

open Cert.ReferenceIdeal Cert.ReferenceIdeal.Gen Cert.ReferenceIdeal.Run Cert.Tok

variable {x : FVec Ideal S4x4096x2048 .f32} {ids : IVec S4x4096 32} {a : FVec Ideal S3x10x2048 .f32} {mean var : FVec Ideal S2048 .f32}
  {X : Fin 4 → Fin 4096 → Fin 2048 → ℝ} {A : Fin 3 → Fin 10 → Fin 2048 → ℝ} {M V : Fin 2048 → ℝ}

/-- A deviation is the real one. -/
theorem stdVal_real (g : General x ids a mean var X A M V) (k : Fin 2048) :
    stdVal (F := Ideal) var (ix1 k) = ((dev V k : ℝ) : EReal) := by
  rw [stdVal_apply, g.hv, word_eps, coe_sqrt (g.var_nonneg k), ← EReal.coe_add]
  rfl

/-- A whitened row is the real one. -/
theorem wVal_real (g : General x ids a mean var X A M V) (b : Fin 4) (s : Fin 4096) (k : Fin 2048) :
    wVal x mean var (ix3 b s k) = ((white (X b s) M V k : ℝ) : EReal) := by
  rw [wVal_apply, stdVal_real g, g.hx, g.hm, ← EReal.coe_sub, coe_div _ (dev_pos V k).ne']
  rfl

/-- Its direction is the real one. -/
theorem hVal_real (g : General x ids a mean var X A M V) (b : Fin 4) (s : Fin 4096) (k : Fin 2048) :
    hVal x mean var (ix3 b s k) = ((dir (X b s) M V k : ℝ) : EReal) := by
  have h0 := tinySq_pos.trans_le (g.token b s)
  have h1 : tiny ≤ √(lenSq (X b s) M V) := by
    rw [Real.le_sqrt' tiny_pos, sq]
    exact tiny_sq_le.trans (g.token b s)
  rw [hVal_apply]
  simp only [wVal_real g, ← EReal.coe_mul]
  rw [coe_sum, word_tiny]
  change Ideal.div _ (max (Ideal.sqrt ((lenSq (X b s) M V : ℝ) : EReal)) _) = _
  rw [coe_sqrt h0.le, coe_max, max_eq_left h1, coe_div _ (Real.sqrt_pos.2 h0).ne']
  rfl

/-- An attractor over its length is the real one. -/
theorem nVal_real (g : General x ids a mean var X A M V) (t : Fin 3) (c : Fin 10) (k : Fin 2048) :
    nVal a (ix3 t c k) = ((unit (A t c) k : ℝ) : EReal) := by
  rw [nVal_apply]
  simp only [g.ha, ← EReal.coe_mul]
  rw [coe_sum, word_tiny, coe_sqrt (Finset.sum_nonneg fun l _ => mul_self_nonneg _), coe_max, max_eq_left (g.attractor t c),
    coe_div _ (tiny_pos.trans_le (g.attractor t c)).ne']
  rfl

/-- A similarity with the position's codebook is the real one. -/
theorem simsVal_real (g : General x ids a mean var X A M V) (b : Fin 4) (s : Fin 4096) (c : Fin 10) :
    simsVal x a mean var (ix3 b s c) = ((sim (X b s) M V (A (book s.val) c) : ℝ) : EReal) := by
  rw [simsVal_apply, allVal_apply]
  simp only [nVal_real g, hVal_real g, ← EReal.coe_mul]
  exact coe_sum _ _

/-- The reference's output of a token is the real one, pulled to an attractor of its codebook that is the most similar. -/
theorem resVal_real (g : General x ids a mean var X A M V) (R : Fin 16384) (j : Fin 2048) (b : Fin 4) (s : Fin 4096)
    (hR : R.val = 4096 * b.val + s.val) :
    ∃ c : Fin 10, (∀ e, sim (X b s) M V (A (book s.val) e) ≤ sim (X b s) M V (A (book s.val) c))
      ∧ resVal x ids a mean var (ix2 R j)
        = ((outReal (X b s) M V (strength (ids (ix2 b s)) s.val) (A (book s.val) c) j : ℝ) : EReal) := by
  obtain ⟨c, hc, hmax⟩ := bestIdx_spec (simsVal x a mean var) b s fun c => by
    rw [simsVal_real g]
    exact EReal.coe_ne_bot _
  refine ⟨c, fun e => ?_, ?_⟩
  · have h := hmax e
    rw [simsVal_real g, simsVal_real g] at h
    exact EReal.coe_le_coe_iff.1 h
  · have hd : ∀ k, dVal x ids a mean var (ix3 b s k)
        = ((strength (ids (ix2 b s)) s.val * (unit (A (book s.val) c) k - dir (X b s) M V k) : ℝ) : EReal) := fun k => by
      rw [dVal_apply x ids a mean var b s k (g.vocab b s), selVal_apply x a mean var b s k c hc, nVal_real g, hVal_real g,
        ← EReal.coe_sub, ← EReal.coe_mul]
    rw [resVal_apply x ids a mean var R j b s hR]
    simp only [hd, ← EReal.coe_mul]
    rw [coe_sum, word_tiny, word_half, coe_sqrt (Finset.sum_nonneg fun l _ => mul_self_nonneg _), coe_max,
      coe_div _ (lt_max_of_lt_right tiny_pos).ne', ← EReal.coe_one, coe_min, stdVal_real g, g.hx, ← EReal.coe_mul, ← EReal.coe_mul,
      ← EReal.coe_add]
    refine congrArg _ ?_
    unfold outReal pullBy
    ring

end Cert.ReferenceIdeal.At

end
-- ==== Proof.Precond.lean ====
/-
What the precondition says, read at an index.
-/
module

public import Idealize.ShloMosaic.Lib.Pointwise
public import proofs.«01_k».proof.Proof.Gen.Pre_general_position
public import proofs.«01_k».proof.Proof.Reals

@[expose] public section

set_option maxRecDepth 16384

noncomputable section

open Idealize.ShloMosaic

namespace Cert.Pre_general_position.At

open Cert.Pre_general_position Cert.Pre_general_position.Facts Cert.Tok

/-! ## The arrays the precondition compares -/

/-- The whitened rows. -/
def rows (x : FVec Ideal S4x4096x2048 .f32) (mean var : FVec Ideal S2048 .f32) : FVec Ideal S4x4096x2048 .f32 :=
  Host.divf (subf x (broadcastInDim S4x4096x2048 ![0, 1, 2] bcast_S1x1x2048_S4x4096x2048_0_1_2
      (broadcastInDim S1x1x2048 ![2] bcast_S2048_S1x1x2048_2 mean)))
    (broadcastInDim S4x4096x2048 ![0, 1, 2] bcast_S1x1x2048_S4x4096x2048_0_1_2 (broadcastInDim S1x1x2048 ![2] bcast_S2048_S1x1x2048_2
      (addf (Host.sqrt var) (broadcastInDim S2048 ![] bcast_S_S2048 (constant S_ .f32 0x322BCC77#32)))))

/-- Their squared lengths. -/
def rowSq (x : FVec Ideal S4x4096x2048 .f32) (mean var : FVec Ideal S2048 .f32) : FVec Ideal S4x4096 .f32 :=
  Host.reduceAdd (mulf (rows x mean var) (rows x mean var)) (constant S_ .f32 0x00000000#32) reducesTo_S4x4096x2048_S4x4096_d2 h_S_

/-- The attractors' squared lengths. -/
def attrSq (a : FVec Ideal S3x10x2048 .f32) : FVec Ideal S3x10 .f32 :=
  Host.reduceAdd (mulf a a) (constant S_ .f32 0x00000000#32) reducesTo_S3x10x2048_S3x10_d2 h_S_

/-- The similarities of every row with every attractor. -/
def simAll (x : FVec Ideal S4x4096x2048 .f32) (a : FVec Ideal S3x10x2048 .f32) (mean var : FVec Ideal S2048 .f32) :
    FVec Ideal S3x10x4x4096 .f32 :=
  Host.dotGeneral dot_S3x10x2048_S4x4096x2048_S3x10x4x4096_2_2_01_01_n_n none
    (Host.divf a (broadcastInDim S3x10x2048 ![0, 1, 2] bcast_S3x10x1_S3x10x2048_0_1_2
      (Host.sqrt (broadcastInDim S3x10x1 ![0, 1] bcast_S3x10_S3x10x1_0_1 (attrSq a)))))
    (Host.divf (rows x mean var) (broadcastInDim S4x4096x2048 ![0, 1, 2] bcast_S4x4096x1_S4x4096x2048_0_1_2
      (Host.sqrt (broadcastInDim S4x4096x1 ![0, 1] bcast_S4x4096_S4x4096x1_0_1 (rowSq x mean var)))))

/-- The same, codebooks before positions. -/
def simBy (x : FVec Ideal S4x4096x2048 .f32) (a : FVec Ideal S3x10x2048 .f32) (mean var : FVec Ideal S2048 .f32) :
    FVec Ideal S4x3x4096x10 .f32 :=
  transpose S4x3x4096x10 [2, 0, 3, 1] (simAll x a mean var) transposes_S3x10x4x4096_S4x3x4096x10_2_0_3_1

/-- Which attractors of a codebook are as similar as any of it. -/
def bestOf (S : FVec Ideal S4x3x4096x10 .f32) : IVec S4x3x4096x10 1 :=
  cmpf .oeq S (broadcastInDim S4x3x4096x10 ![0, 1, 2, 3] bcast_S4x3x4096x1_S4x3x4096x10_0_1_2_3
    (broadcastInDim S4x3x4096x1 ![0, 1, 2] bcast_S4x3x4096_S4x3x4096x1_0_1_2
      (Host.reduce FloatOps.maximumf S (constant S_ .f32 0xFF800000#32) reducesTo_S4x3x4096x10_S4x3x4096_d3 h_S_)))

/-- Positions as shares of the length. -/
def share : FVec Ideal S4096 .f32 :=
  Host.divf (sitofp .f32 (iotaInDim S4096 32 0)) (broadcastInDim S4096 ![] bcast_S_S4096 (constant S_ .f32 0x45800000#32))

/-- The positions' codebooks. -/
def books : IVec S4096 32 :=
  fn_where_0 (F := Ideal) (cmpf .olt share (broadcastInDim S4096 ![] bcast_S_S4096 (constant S_ .f32 0x3E99999A#32)))
    (constantI S_ 32 0#32)
    (fn_where (F := Ideal) (cmpf .olt share (broadcastInDim S4096 ![] bcast_S_S4096 (constant S_ .f32 0x3F333333#32)))
      (constantI S_ 32 1#32) (constantI S_ 32 2#32))

/-- Whether a codebook is another than the position's. -/
def otherBook : IVec S3x4096 1 :=
  cmpi .ne (broadcastInDim S3x4096 ![0, 1] bcast_S1x4096_S3x4096_0_1
      (id (broadcastInDim S1x4096 ![1] bcast_S4096_S1x4096_1 books)))
    (broadcastInDim S3x4096 ![0, 1] bcast_S3x1_S3x4096_0_1 (broadcastInDim S3x1 ![0] bcast_S3_S3x1_0 (iotaInDim S3 32 0)))

/-- Whether two numbers of attractors are the same. -/
def sameNo : IVec S10x10 1 :=
  cmpi .eq (broadcastInDim S10x10 ![0, 1] bcast_S10x1_S10x10_0_1 (broadcastInDim S10x1 ![0] bcast_S10_S10x1_0 (iotaInDim S10 32 0)))
    (broadcastInDim S10x10 ![0, 1] bcast_S1x10_S10x10_0_1 (broadcastInDim S1x10 ![1] bcast_S10_S1x10_1 (iotaInDim S10 32 0)))

/-- Of two attractors of the position's codebook, not both are the most similar. -/
def noTie (best : IVec S4x3x4096x10 1) : IVec S4x3x4096x10x10 1 :=
  ori (broadcastInDim S4x3x4096x10x10 ![0, 1, 2, 3, 4] bcast_S1x3x4096x10x10_S4x3x4096x10x10_0_1_2_3_4
      (ori (broadcastInDim S1x3x4096x10x10 ![0, 1, 2, 3, 4] bcast_S1x1x1x10x10_S1x3x4096x10x10_0_1_2_3_4
          (broadcastInDim S1x1x1x10x10 ![3, 4] bcast_S10x10_S1x1x1x10x10_3_4 sameNo))
        (broadcastInDim S1x3x4096x10x10 ![0, 1, 2, 3, 4] bcast_S1x3x4096x1x1_S1x3x4096x10x10_0_1_2_3_4
          (broadcastInDim S1x3x4096x1x1 ![1, 2] bcast_S3x4096_S1x3x4096x1x1_1_2 otherBook))))
    (noti (andi
      (broadcastInDim S4x3x4096x10x10 ![0, 1, 2, 3, 4] bcast_S4x3x4096x10x1_S4x3x4096x10x10_0_1_2_3_4
        (broadcastInDim S4x3x4096x10x1 ![0, 1, 2, 3] bcast_S4x3x4096x10_S4x3x4096x10x1_0_1_2_3 best))
      (broadcastInDim S4x3x4096x10x10 ![0, 1, 2, 3, 4] bcast_S4x3x4096x1x10_S4x3x4096x10x10_0_1_2_3_4
        (broadcastInDim S4x3x4096x1x10 ![0, 1, 2, 4] bcast_S4x3x4096x10_S4x3x4096x1x10_0_1_2_4 best))))

/-- The precondition's results, by these names. -/
theorem fn_eq (x : FVec Ideal S4x4096x2048 .f32) (ids : IVec S4x4096 32) (a : FVec Ideal S3x10x2048 .f32) (mean var : FVec Ideal S2048 .f32) :
    Cert.Pre_general_position.fn (F := Ideal) x ids a mean var
      = (cmpf .olt (Host.absf x) (broadcastInDim S4x4096x2048 ![] bcast_S_S4x4096x2048 (constant S_ .f32 0x7F800000#32)),
         cmpf .olt (Host.absf a) (broadcastInDim S3x10x2048 ![] bcast_S_S3x10x2048 (constant S_ .f32 0x7F800000#32)),
         cmpf .olt (Host.absf mean) (broadcastInDim S2048 ![] bcast_S_S2048 (constant S_ .f32 0x7F800000#32)),
         cmpf .olt (Host.absf var) (broadcastInDim S2048 ![] bcast_S_S2048 (constant S_ .f32 0x7F800000#32)),
         cmpf .oge var (broadcastInDim S2048 ![] bcast_S_S2048 (constant S_ .f32 0x00000000#32)),
         andi (cmpi .sge ids (broadcastInDim S4x4096 ![] bcast_S_S4x4096 (constantI S_ 32 0#32)))
           (cmpi .slt ids (broadcastInDim S4x4096 ![] bcast_S_S4x4096 (constantI S_ 32 32000#32))),
         cmpf .oge (rowSq x mean var) (broadcastInDim S4x4096 ![] bcast_S_S4x4096 (constant S_ .f32 0x179ABE15#32)),
         cmpf .oge (Host.sqrt (attrSq a)) (broadcastInDim S3x10 ![] bcast_S_S3x10 (constant S_ .f32 0x2B8CBCCC#32)),
         noTie (bestOf (simBy x a mean var))) := rfl

/-! ## At an index -/

variable (x : FVec Ideal S4x4096x2048 .f32) (ids : IVec S4x4096 32) (a : FVec Ideal S3x10x2048 .f32) (mean var : FVec Ideal S2048 .f32)

/-- A whitened row at a feature. -/
theorem rows_apply (b : Fin 4) (s : Fin 4096) (k : Fin 2048) :
    rows x mean var (ix3 b s k)
      = Ideal.div (x (ix3 b s k) - mean (ix1 k)) (Ideal.sqrt (var (ix1 k)) + Ideal.ofBits .f32 0x322BCC77#32) := by
  unfold rows
  pointwise

/-- The squared length of a whitened row. -/
theorem rowSq_apply (b : Fin 4) (s : Fin 4096) :
    rowSq x mean var (ix2 b s) = ∑ k, rows x mean var (ix3 b s k) * rows x mean var (ix3 b s k) := by
  unfold rowSq
  pointwise

/-- The squared length of an attractor. -/
theorem attrSq_apply (t : Fin 3) (c : Fin 10) : attrSq a (ix2 t c) = ∑ k, a (ix3 t c k) * a (ix3 t c k) := by
  unfold attrSq
  pointwise

/-- The similarity of a row with an attractor. -/
theorem simBy_apply (b : Fin 4) (t : Fin 3) (s : Fin 4096) (c : Fin 10) :
    simBy x a mean var (ix4 b t s c)
      = ∑ k, Ideal.div (a (ix3 t c k)) (Ideal.sqrt (attrSq a (ix2 t c)))
          * Ideal.div (rows x mean var (ix3 b s k)) (Ideal.sqrt (rowSq x mean var (ix2 b s))) := by
  unfold simBy simAll
  pointwise

/-- An attractor that no other of its codebook exceeds is marked as best. -/
theorem bestOf_apply (S : FVec Ideal S4x3x4096x10 .f32) (b : Fin 4) (t : Fin 3) (s : Fin 4096) (c : Fin 10)
    (h : ∀ e, S (ix4 b t s e) ≤ S (ix4 b t s c)) : bestOf S (ix4 b t s c) = 1#1 := by
  unfold bestOf
  pointwise
  have e : S (ix4 b t s c) = Finset.fold max (Ideal.ofBits .f32 0xFF800000#32) (fun e => S (ix4 b t s e)) Finset.univ := by
    rw [word_bot]
    exact le_antisymm (Finset.le_sup (f := fun e => S (ix4 b t s e)) (Finset.mem_univ c)) (Finset.sup_le fun e _ => h e)
  rw [decide_eq_true e]
  rfl

/-- The codebook of a position. -/
theorem books_apply (s : Fin 4096) : books (ix1 s) = BitVec.ofNat 32 (book s.val).val := by
  unfold books fn_where_0 fn_where share
  pointwise
  have h : FloatOps.sitofp (F := Ideal) .f32 (BitVec.ofNat 32 s.val) = ((s.val : ℝ) : EReal) := by
    show (((BitVec.ofNat 32 s.val).toInt : ℝ) : EReal) = _
    rw [BitVec.toInt_eq_toNat_of_lt (by rw [BitVec.toNat_ofNat]; omega), BitVec.toNat_ofNat, Nat.mod_eq_of_lt (by omega)]
    simp
  rw [h, word_len, coe_div _ (by norm_num), word_base, word_late]
  simp only [EReal.coe_lt_coe_iff]
  have h1 : (s.val / 4096 : ℝ) < base ↔ s.val ≤ 1228 := by
    unfold base
    rw [div_lt_div_iff₀ (by norm_num) (by norm_num)]
    norm_cast
    omega
  have h2 : (s.val / 4096 : ℝ) < 11744051 / 16777216 ↔ s.val ≤ 2867 := by
    rw [div_lt_div_iff₀ (by norm_num) (by norm_num)]
    norm_cast
    omega
  simp only [h1, h2]
  unfold book
  split_ifs <;> rfl

/-- Two attractors of the position's codebook that are both marked as best are the same. -/
theorem noTie_apply (best : IVec S4x3x4096x10 1) (b : Fin 4) (t : Fin 3) (s : Fin 4096) (c c' : Fin 10)
    (ht : t = book s.val) (h : noTie best (ix5 b t s c c') = 1#1) (h1 : best (ix4 b t s c) = 1#1) (h2 : best (ix4 b t s c') = 1#1) :
    c = c' := by
  unfold noTie otherBook sameNo at h
  pointwise [id_eq] at h
  rw [h1, h2, books_apply, ← ht, (by decide : ~~~ IntOp.andi (1#1) (1#1) = 0#1),
    (by decide +kernel : ∀ t : Fin 3, IntOp.cmpi .ne (BitVec.ofNat 32 t.val) (BitVec.ofNat 32 t.val) = 0#1) t] at h
  clear h1 h2
  revert h
  revert c c'
  decide +kernel

/-! ## In real numbers -/

/-- A number whose absolute value is below infinity is real. -/
theorem real_of_lt {v : EReal} (h : Ideal.cmp .olt (max v (-v)) (Ideal.ofBits .f32 0x7F800000#32) = 1#1) : ((v.toReal : ℝ) : EReal) = v := by
  rw [word_top] at h
  have h := (Ideal.cmp_olt_eq_one _ _).1 h
  refine EReal.coe_toReal (fun e => ?_) (fun e => ?_) <;> subst e <;> simp at h

/-- A set "greater or equal" bit says so. -/
theorem le_of_cmp {u v : EReal} (h : Ideal.cmp .oge u v = 1#1) : v ≤ u := by
  rw [Ideal.cmp_oge] at h
  by_contra hn
  rw [decide_eq_false hn] at h
  exact absurd h (by decide)

/-- The precondition gives the real numbers and the facts of them. -/
theorem general
    (h : (Cert.Pre_general_position.fn (F := Ideal) x ids a mean var).1 = (fun _ => 1#1)
      ∧ (Cert.Pre_general_position.fn (F := Ideal) x ids a mean var).2.1 = (fun _ => 1#1)
      ∧ (Cert.Pre_general_position.fn (F := Ideal) x ids a mean var).2.2.1 = (fun _ => 1#1)
      ∧ (Cert.Pre_general_position.fn (F := Ideal) x ids a mean var).2.2.2.1 = (fun _ => 1#1)
      ∧ (Cert.Pre_general_position.fn (F := Ideal) x ids a mean var).2.2.2.2.1 = (fun _ => 1#1)
      ∧ (Cert.Pre_general_position.fn (F := Ideal) x ids a mean var).2.2.2.2.2.1 = (fun _ => 1#1)
      ∧ (Cert.Pre_general_position.fn (F := Ideal) x ids a mean var).2.2.2.2.2.2.1 = (fun _ => 1#1)
      ∧ (Cert.Pre_general_position.fn (F := Ideal) x ids a mean var).2.2.2.2.2.2.2.1 = (fun _ => 1#1)
      ∧ (Cert.Pre_general_position.fn (F := Ideal) x ids a mean var).2.2.2.2.2.2.2.2 = (fun _ => 1#1)) :
    ∃ X A M V, General x ids a mean var X A M V := by
  rw [fn_eq] at h
  dsimp only at h
  obtain ⟨hx, ha, hm, hv, hv0, hi, hn, hat, hu⟩ := h
  have hx : ∀ b s k, x (ix3 b s k) = (((x (ix3 b s k)).toReal : ℝ) : EReal) := fun b s k => (real_of_lt (congrFun hx (ix3 b s k))).symm
  have ha : ∀ t c k, a (ix3 t c k) = (((a (ix3 t c k)).toReal : ℝ) : EReal) := fun t c k => (real_of_lt (congrFun ha (ix3 t c k))).symm
  have hm : ∀ k, mean (ix1 k) = (((mean (ix1 k)).toReal : ℝ) : EReal) := fun k => (real_of_lt (congrFun hm (ix1 k))).symm
  have hv : ∀ k, var (ix1 k) = (((var (ix1 k)).toReal : ℝ) : EReal) := fun k => (real_of_lt (congrFun hv (ix1 k))).symm
  have hv0 : ∀ k, 0 ≤ (var (ix1 k)).toReal := fun k => by
    have h := congrFun hv0 (ix1 k)
    pointwise at h
    refine EReal.toReal_nonneg (by_contra fun hn => ?_)
    rw [decide_eq_false hn] at h
    exact absurd h (by decide)
  have hi : ∀ b s, (ids (ix2 b s)).toNat < 32000 := fun b s => by
    have h := congrFun hi (ix2 b s)
    pointwise at h
    obtain ⟨h1, h2⟩ := IntOp.andi_eq_one.1 h
    have h1 := IntOp.cmpi_sge.1 h1
    have h2 := IntOp.cmpi_slt.1 h2
    rw [(by decide : (0#32).toInt = 0)] at h1
    rw [(by decide : (32000#32).toInt = 32000)] at h2
    rw [BitVec.toInt_eq_toNat_cond] at h1 h2
    split_ifs at h1 h2 <;> omega
  generalize hX : (fun b s k => (x (ix3 b s k)).toReal) = X
  generalize hA : (fun t c k => (a (ix3 t c k)).toReal) = A
  generalize hM : (fun k => (mean (ix1 k)).toReal) = M
  generalize hV : (fun k => (var (ix1 k)).toReal) = V
  replace hx : ∀ b s k, x (ix3 b s k) = ((X b s k : ℝ) : EReal) := by subst hX; exact hx
  replace ha : ∀ t c k, a (ix3 t c k) = ((A t c k : ℝ) : EReal) := by subst hA; exact ha
  replace hm : ∀ k, mean (ix1 k) = ((M k : ℝ) : EReal) := by subst hM; exact hm
  replace hv : ∀ k, var (ix1 k) = ((V k : ℝ) : EReal) := by subst hV; exact hv
  replace hv0 : ∀ k, 0 ≤ V k := by subst hV; exact hv0
  have rows_real : ∀ b s k, rows x mean var (ix3 b s k) = ((white (X b s) M V k : ℝ) : EReal) := fun b s k => by
    rw [rows_apply, hx, hm, hv, coe_sqrt (hv0 k), word_eps, ← EReal.coe_sub, ← EReal.coe_add]
    exact coe_div _ (dev_pos V k).ne'
  have rowSq_real : ∀ b s, rowSq x mean var (ix2 b s) = ((lenSq (X b s) M V : ℝ) : EReal) := fun b s => by
    rw [rowSq_apply]
    simp only [rows_real, ← EReal.coe_mul]
    exact coe_sum _ _
  have attrSq_real : ∀ t c, attrSq a (ix2 t c) = ((∑ k, A t c k * A t c k : ℝ) : EReal) := fun t c => by
    rw [attrSq_apply]
    simp only [ha, ← EReal.coe_mul]
    exact coe_sum _ _
  have token : ∀ b s, tinySq ≤ lenSq (X b s) M V := fun b s => by
    have h := le_of_cmp (congrFun hn (ix2 b s))
    rw [rowSq_real] at h
    exact EReal.coe_le_coe_iff.1 (word_tinySq.symm.trans_le h)
  have attractor : ∀ t c, tiny ≤ √(∑ l, A t c l * A t c l) := fun t c => by
    have h : Ideal.ofBits .f32 0x2B8CBCCC#32 ≤ Ideal.sqrt (attrSq a (ix2 t c)) := le_of_cmp (congrFun hat (ix2 t c))
    rw [attrSq_real, coe_sqrt (Finset.sum_nonneg fun l _ => mul_self_nonneg _)] at h
    exact EReal.coe_le_coe_iff.1 (word_tiny.symm.trans_le h)
  have sim_real : ∀ b t s c, simBy x a mean var (ix4 b t s c) = ((sim (X b s) M V (A t c) : ℝ) : EReal) := fun b t s c => by
    rw [simBy_apply]
    simp only [rows_real, rowSq_real, attrSq_real, ha]
    rw [coe_sqrt (Finset.sum_nonneg fun l _ => mul_self_nonneg _), coe_sqrt (tinySq_pos.le.trans (token b s))]
    have h1 := (tiny_pos.trans_le (attractor t c)).ne'
    have h2 := (Real.sqrt_pos.2 (tinySq_pos.trans_le (token b s))).ne'
    simp only [coe_div _ h1, coe_div _ h2, ← EReal.coe_mul]
    exact coe_sum _ _
  refine ⟨X, A, M, V, hx, ha, hm, hv, hv0, hi, token, attractor, fun b s c c' h1 h2 => ?_⟩
  have best : ∀ c, (∀ e, sim (X b s) M V (A (book s.val) e) ≤ sim (X b s) M V (A (book s.val) c)) →
      bestOf (simBy x a mean var) (ix4 b (book s.val) s c) = 1#1 := fun c h =>
    bestOf_apply _ _ _ _ _ fun e => by
      rw [sim_real, sim_real]
      exact EReal.coe_le_coe_iff.2 (h e)
  exact noTie_apply _ b _ s c c' rfl (congrFun hu (ix5 b (book s.val) s c c')) (best c h1) (best c' h2)

end Cert.Pre_general_position.At

end
-- ==== Proof.Value.lean ====
/-
The value claim: on arguments in general position the kernel and the reference return the same array of extended reals.
-/
module

public import proofs.«01_k».proof.Defs
public import proofs.«01_k».proof.Proof.KerVal
public import proofs.«01_k».proof.Proof.RefVal
public import proofs.«01_k».proof.Proof.Precond
public import Idealize.ShloMosaic.Adequacy
public import Idealize.ShloMosaic.Init

@[expose] public section

noncomputable section

namespace Cert.Proof.Value

open Idealize.ShloMosaic Idealize.ShloMosaic.TcCoe Idealize.SL.Sem Cert.Tok

/-- Of arguments in general position the reference's result is the kernel's, at every row and feature. -/
theorem result_eq {x : FVec Ideal ⟨3, ![4, 4096, 2048]⟩ .f32} {ids : IVec ⟨2, ![4, 4096]⟩ 32} {a : FVec Ideal ⟨3, ![3, 10, 2048]⟩ .f32}
    {mean var : FVec Ideal ⟨1, ![2048]⟩ .f32} {X : Fin 4 → Fin 4096 → Fin 2048 → ℝ} {A : Fin 3 → Fin 10 → Fin 2048 → ℝ}
    {M V : Fin 2048 → ℝ} (g : General x ids a mean var X A M V) :
    Cert.ReferenceIdeal.Run.resVal (F := Ideal) x ids a mean var = Cert.KernelIdeal.Tok.result x ids a mean var := by
  funext i
  idx_vars i
  have h : i0.val = 4096 * (⟨i0.val / 4096, by omega⟩ : Fin 4).val + (⟨i0.val % 4096, by omega⟩ : Fin 4096).val := by
    dsimp only
    omega
  obtain ⟨c, hc, e⟩ := Cert.ReferenceIdeal.At.resVal_real g i0 i1 _ _ h
  exact e.trans (Cert.KernelIdeal.Tok.tokenOut_real g i0 i1 _ _ h c hc).symm

/-- The value claim. -/
theorem algebraic : Cert.algebraic_KernelIdeal_ReferenceIdeal_pre_general_position := by
  intro m ρ m' ρ' hpre hagree
  refine ⟨_, Cert.KernelIdeal.Tok.run m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4⟩ := hagree c
  rw [h0, h1, h2, h3, h4]
  obtain ⟨X, A, M, V, g⟩ := Cert.Pre_general_position.At.general _ _ _ _ _ (hpre c)
  exact result_eq g

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_general_position
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_general_position.Gen.facts,
    Frames.frame_p, Frames.frame_pi, Frames.frame_pi_pre, Frames.frame_ri, Frames.frame_ri_pre, Frames.preserves, Value.algebraic⟩

end Cert.Proof

end
